-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_positions_in_range : Cert.Pre_positions_in_range.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ preserves_Kernel_KernelIdeal
    ∧ algebraic_KernelIdeal_ReferenceIdeal (hKernelIdeal := hKernelIdeal) (hReferenceIdeal := hReferenceIdeal) (hPre_positions_in_range := hPre_positions_in_range)
-- ==== Pre_positions_in_range.lean ====
abbrev S16x4096 : Shape := ⟨2, ![16, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel

variable [Facts]

def fn {F : FTy → Type} [FloatOps F] (main_arg0 : FVec F S16x4096 .f32) (main_arg1 : IVec S16x4096 32) : IVec S_ 1 :=
  let main_c : IVec S_ 32 := constantI S_ 32 0#32
  let main_v0 : IVec S16x4096 32 := broadcastInDim S16x4096 ![] bcast_S_S16x4096 main_c
  let main_v1 : IVec S16x4096 1 := cmpi .sge main_arg1 main_v0
  let main_c_0 : IVec S_ 32 := constantI S_ 32 4096#32
  let main_v2 : IVec S16x4096 32 := broadcastInDim S16x4096 ![] bcast_S_S16x4096 main_c_0
  let main_v3 : IVec S16x4096 1 := cmpi .slt main_arg1 main_v2
  let main_v4 : IVec S16x4096 1 := andi main_v1 main_v3
  let main_c_1 : IVec S_ 1 := constantI S_ 1 1#1
  let main_v5 : IVec S_ 1 := (fun x v => Host.reduce IntOp.andi x v reducesTo_S16x4096_S_d0_1 h_S_) main_v4 main_c_1
  main_v5
-- ==== Kernel.lean ====
abbrev S16x4096 : Shape := ⟨2, ![16, 4096]⟩
abbrev S4096 : Shape := ⟨1, ![4096]⟩
abbrev S_ : Shape := ⟨0, ![]⟩
abbrev S1x4096 : Shape := ⟨2, ![1, 4096]⟩
abbrev S16 : Shape := ⟨1, ![16]⟩

abbrev nBuf : Table → Nat
  | .hbm => 4
  | .local .scVector .vmem => 6
  | _ => 0

abbrev bufTy : (tb : Table) → Fin (nBuf tb) → BufTy
  | .hbm, ⟨0, _⟩ => ⟨S16x4096, .f32⟩
  | .hbm, ⟨1, _⟩ => ⟨S16x4096, .i32⟩
  | .hbm, ⟨2, _⟩ => ⟨S16x4096, .f32⟩
  | .hbm, ⟨3, _⟩ => ⟨S16x4096, .i32⟩
  | .local .scVector .vmem, ⟨0, _⟩ => ⟨S4096, .i32⟩
  | .local .scVector .vmem, ⟨1, _⟩ => ⟨S4096, .f32⟩
  | .local .scVector .vmem, ⟨2, _⟩ => ⟨S4096, .i32⟩
  | .local .scVector .vmem, ⟨3, _⟩ => ⟨S4096, .i32⟩
  | .local .scVector .vmem, ⟨4, _⟩ => ⟨S4096, .i32⟩
  | .local .scVector .vmem, ⟨5, _⟩ => ⟨S4096, .f32⟩
  | _, _ => ⟨S16x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg1_scv : Ref sig .scVector := ⟨.hbm, 1, rfl⟩
abbrev main_arg0_scv : Ref sig .scVector := ⟨.hbm, 0, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r0 : BitVec 32 := 0#32
  ![v1.toNat, 0]
@[reducible] def k0_t1_loop : Scf.Loop 32 :=
  let c0_i32_1 : BitVec 32 := 0#32
  let c256_i32 : BitVec 32 := 256#32
  let v7 : BitVec 32 := Scalar.addi c0_i32_1 c256_i32
  let c1_i32 : BitVec 32 := 1#32
  ⟨c0_i32_1, v7, c1_i32⟩
def k0_off2 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c16_i32_19 : BitVec 32 := 16#32
  let v13 : BitVec 32 := Scalar.muli arg12 c16_i32_19
  let v14 : Index := Scalar.indexCast v13
  ![v14.toNat]
@[reducible] def k0_t2_loop : Scf.Loop 32 :=
  let c0_i32_4 : BitVec 32 := 0#32
  let c256_i32_5 : BitVec 32 := 256#32
  let v8 : BitVec 32 := Scalar.addi c0_i32_4 c256_i32_5
  let c1_i32_6 : BitVec 32 := 1#32
  ⟨c0_i32_4, v8, c1_i32_6⟩
def k0_off3 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32_18 : BitVec 32 := 16#32
  let v12 : BitVec 32 := Scalar.muli arg12 c16_i32_18
  let v13 : Index := Scalar.indexCast v12
  ![v13.toNat]

def k0_chk1 (i : grid0.Coords) (v15 : IVec S16 32) : Prop :=
  (∀ (k0_h1 : k0_cond1 i = 1#1), ∀ a x, ((![v15] : Fin 1 → IVec S16 32) a x).toNat < S4096.size a)
theorem k0_idx1_inb : ∀ (i : grid0.Coords) (v15 : IVec S16 32) (k0_hw1 : k0_chk1 i v15), ∀ (k0_h1 : k0_cond1 i = 1#1), ∀ a x, ((![v15] : Fin 1 → IVec S16 32) a x).toNat < S4096.size a := fun i v15 k0_hw1 k0_h1 => k0_hw1 k0_h1
@[reducible] def k0_t3_loop : Scf.Loop 32 :=
  let c0_i32_9 : BitVec 32 := 0#32
  let c256_i32_10 : BitVec 32 := 256#32
  let v9 : BitVec 32 := Scalar.addi c0_i32_9 c256_i32_10
  let c1_i32_11 : BitVec 32 := 1#32
  ⟨c0_i32_9, v9, c1_i32_11⟩
def k0_off4 (k0_t3 : Fin k0_t3_loop.trips) : Fin 1 → Nat :=
  let c0_i32_9 : BitVec 32 := 0#32
  let c1_i32_11 : BitVec 32 := 1#32
  let arg12 : BitVec 32 := Scf.iv c0_i32_9 c1_i32_11 k0_t3
  let c16_i32_18 : BitVec 32 := 16#32
  let v12 : BitVec 32 := Scalar.muli arg12 c16_i32_18
  let v13 : Index := Scalar.indexCast v12
  ![v13.toNat]
@[reducible] def k0_t4_loop : Scf.Loop 32 :=
  let c0_i32_14 : BitVec 32 := 0#32
  let c256_i32_15 : BitVec 32 := 256#32
  let v11 : BitVec 32 := Scalar.addi c0_i32_14 c256_i32_15
  let c1_i32_16 : BitVec 32 := 1#32
  ⟨c0_i32_14, v11, c1_i32_16⟩
def k0_off5 (k0_t4 : Fin k0_t4_loop.trips) : Fin 1 → Nat :=
  let c0_i32_14 : BitVec 32 := 0#32
  let c1_i32_16 : BitVec 32 := 1#32
  let arg12 : BitVec 32 := Scf.iv c0_i32_14 c1_i32_16 k0_t4
  let c16_i32_18 : BitVec 32 := 16#32
  let v12 : BitVec 32 := Scalar.muli arg12 c16_i32_18
  let v13 : Index := Scalar.indexCast v12
  ![v13.toNat]

def k0_chk2 (i : grid0.Coords) (v15 : IVec S16 32) : Prop :=
  (∀ (k0_h1 : k0_cond1 i = 1#1), ∀ a x, ((![v15] : Fin 1 → IVec S16 32) a x).toNat < S4096.size a) ∧
  (∀ (k0_h1 : k0_cond1 i = 1#1), ∀ a x, ((![v15] : Fin 1 → IVec S16 32) a x).toNat < S4096.size a)
theorem k0_idx2_inb : ∀ (i : grid0.Coords) (v15 : IVec S16 32) (k0_hw2 : k0_chk2 i v15), ∀ (k0_h1 : k0_cond1 i = 1#1), ∀ a x, ((![v15] : Fin 1 → IVec S16 32) a x).toNat < S4096.size a := fun i v15 k0_hw2 k0_h1 => k0_hw2.1 k0_h1
theorem k0_idx3_inb : ∀ (i : grid0.Coords) (v15 : IVec S16 32) (k0_hw2 : k0_chk2 i v15), ∀ (k0_h1 : k0_cond1 i = 1#1), ∀ a x, ((![v15] : Fin 1 → IVec S16 32) a x).toNat < S4096.size a := fun i v15 k0_hw2 k0_h1 => k0_hw2.2 k0_h1

def k0_chk3 (i : grid0.Coords) (v23 : IVec S16 32) : Prop :=
  (∀ (k0_h1 : k0_cond1 i = 1#1), ∀ a x, ((![v23] : Fin 1 → IVec S16 32) a x).toNat < S4096.size a) ∧
  (∀ (k0_h1 : k0_cond1 i = 1#1), ∀ a x, ((![v23] : Fin 1 → IVec S16 32) a x).toNat < S4096.size a)
theorem k0_idx4_inb : ∀ (i : grid0.Coords) (v23 : IVec S16 32) (k0_hw3 : k0_chk3 i v23), ∀ (k0_h1 : k0_cond1 i = 1#1), ∀ a x, ((![v23] : Fin 1 → IVec S16 32) a x).toNat < S4096.size a := fun i v23 k0_hw3 k0_h1 => k0_hw3.1 k0_h1
theorem k0_idx5_inb : ∀ (i : grid0.Coords) (v23 : IVec S16 32) (k0_hw3 : k0_chk3 i v23), ∀ (k0_h1 : k0_cond1 i = 1#1), ∀ a x, ((![v23] : Fin 1 → IVec S16 32) a x).toNat < S4096.size a := fun i v23 k0_hw3 k0_h1 => k0_hw3.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x4096, .i32⟩
  | .hbm, ⟨2, _⟩ => ⟨S16x4096, .i32⟩
  | .hbm, ⟨3, _⟩ => ⟨S16x4096, .i32⟩
  | .hbm, ⟨4, _⟩ => ⟨S16x4096, .i32⟩
  | .hbm, ⟨5, _⟩ => ⟨S_, .i32⟩
  | .hbm, ⟨6, _⟩ => ⟨S16x4096, .i32⟩
  | .hbm, ⟨7, _⟩ => ⟨S16x4096, .i1⟩
  | .hbm, ⟨8, _⟩ => ⟨S_, .i32⟩
  | .hbm, ⟨9, _⟩ => ⟨S16x4096, .i32⟩
  | .hbm, ⟨10, _⟩ => ⟨S16x4096, .i32⟩
  | .hbm, ⟨11, _⟩ => ⟨S16x4096, .i32⟩
  | .hbm, ⟨12, _⟩ => ⟨S16x4096x1, .i32⟩
  | .hbm, ⟨13, _⟩ => ⟨S1, .i32⟩
  | .hbm, ⟨14, _⟩ => ⟨S_, .i32⟩
  | .hbm, ⟨15, _⟩ => ⟨S16x4096x1, .i32⟩
  | .hbm, ⟨16, _⟩ => ⟨S16x4096x1, .i1⟩
  | .hbm, ⟨17, _⟩ => ⟨S1x1x1, .i32⟩
  | .hbm, ⟨18, _⟩ => ⟨S16x4096x1, .i32⟩
  | .hbm, ⟨19, _⟩ => ⟨S16x4096x1, .i1⟩
  | .hbm, ⟨20, _⟩ => ⟨S16x4096x1, .i1⟩
  | .hbm, ⟨21, _⟩ => ⟨S_, .i1⟩
  | .hbm, ⟨22, _⟩ => ⟨S16x4096, .i1⟩
  | .hbm, ⟨23, _⟩ => ⟨S16x4096, .i32⟩
  | .hbm, ⟨24, _⟩ => ⟨S_, .i32⟩
  | .hbm, ⟨25, _⟩ => ⟨S16x4096, .i32⟩
  | .hbm, ⟨26, _⟩ => ⟨S16x4096, .i32⟩
  | .hbm, ⟨27, _⟩ => ⟨S_, .i32⟩
  | .hbm, ⟨28, _⟩ => ⟨S16x4096, .i32⟩
  | .hbm, ⟨29, _⟩ => ⟨S16x4096, .i1⟩
  | .hbm, ⟨30, _⟩ => ⟨S_, .i32⟩
  | .hbm, ⟨31, _⟩ => ⟨S16x4096, .i32⟩
  | .hbm, ⟨32, _⟩ => ⟨S16x4096, .i32⟩
  | .hbm, ⟨33, _⟩ => ⟨S16x4096, .i32⟩
  | .hbm, ⟨34, _⟩ => ⟨S16x4096x1, .i32⟩
  | .hbm, ⟨35, _⟩ => ⟨S1, .i32⟩
  | .hbm, ⟨36, _⟩ => ⟨S_, .i32⟩
  | .hbm, ⟨37, _⟩ => ⟨S16x4096x1, .i32⟩
  | .hbm, ⟨38, _⟩ => ⟨S16x4096x1, .i1⟩
  | .hbm, ⟨39, _⟩ => ⟨S1x1x1, .i32⟩
  | .hbm, ⟨40, _⟩ => ⟨S16x4096x1, .i32⟩
  | .hbm, ⟨41, _⟩ => ⟨S16x4096x1, .i1⟩
  | .hbm, ⟨42, _⟩ => ⟨S16x4096x1, .i1⟩
  | .hbm, ⟨43, _⟩ => ⟨S_, .i1⟩
  | .hbm, ⟨44, _⟩ => ⟨S16x4096, .i1⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_c_4 : Ref sig .tc := ⟨.hbm, 24, rfl⟩
abbrev main_call1_v14 : Ref sig .tc := ⟨.hbm, 25, rfl⟩
abbrev main_v1 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v2 : Ref sig .tc := ⟨.hbm, 48, rfl⟩

abbrev nD : Nat := 1
abbrev τ : Topo := Topo.v7x

variable {F : FTy → Type} [FloatOps F]
-- ==== Proof.Counting.lean ====
/- The arithmetic of a counting sort, on natural numbers. `K j` is the key of entry `j`; entry `j` of `n` entries
   belongs at `place K n j`: after every entry with a smaller key and after the earlier entries with the same key. The
   places are the positions a stable sort by the keys gives the entries. -/
module

public import Idealize.ShloMosaic.Lib.SortFacts
public import Mathlib.Order.Fin.Basic

@[expose] public section

namespace Cert.CountingSort

open Idealize.ShloMosaic

/-- How many of the first `m` entries have the key `v`. -/
def cntEq (K : ℕ → ℕ) (m v : ℕ) : ℕ := ((Finset.range m).filter fun j => K j = v).card

/-- How many of the first `n` entries have a key below `v`. -/
def cntLt (K : ℕ → ℕ) (n v : ℕ) : ℕ := ((Finset.range n).filter fun j => K j < v).card

/-- Where entry `j` of `n` entries belongs: past the entries of smaller key and past the earlier ones of the same key. -/
def place (K : ℕ → ℕ) (n j : ℕ) : ℕ := cntLt K n (K j) + cntEq K j (K j)

variable (K : ℕ → ℕ)

theorem cntEq_zero (v : ℕ) : cntEq K 0 v = 0 := rfl

/-- One more entry adds one to its own key's count and nothing to another's. -/
theorem cntEq_succ (m v : ℕ) : cntEq K (m + 1) v = cntEq K m v + if K m = v then 1 else 0 := by
  unfold cntEq
  rw [Finset.range_add_one, Finset.filter_insert]
  split
  · rw [Finset.card_insert_of_notMem (by simp)]
  · rfl

/-- The count over `m + t` entries is the count over the first `m` and the count over the `t` after them. -/
theorem cntEq_add (m t v : ℕ) : cntEq K (m + t) v = cntEq K m v + cntEq (fun s => K (m + s)) t v := by
  induction t with
  | zero => rfl
  | succ t ih => rw [← Nat.add_assoc, cntEq_succ, ih, cntEq_succ, Nat.add_assoc]

theorem cntEq_mono {m m' : ℕ} (h : m ≤ m') (v : ℕ) : cntEq K m v ≤ cntEq K m' v :=
  Finset.card_le_card (Finset.filter_subset_filter _ (Finset.range_mono h))

theorem cntEq_le (m v : ℕ) : cntEq K m v ≤ m :=
  (Finset.card_filter_le _ _).trans (Finset.card_range m).le

/-- A count is zero when no entry has the key. -/
theorem cntEq_eq_zero {m v : ℕ} (h : ∀ t < m, K t ≠ v) : cntEq K m v = 0 := by
  unfold cntEq
  rw [Finset.card_eq_zero, Finset.filter_eq_empty_iff]
  exact fun t ht => h t (Finset.mem_range.mp ht)

/-- An entry counts itself: the count before it is smaller than any count that reaches past it. -/
theorem cntEq_lt {j m : ℕ} (h : j < m) : cntEq K j (K j) < cntEq K m (K j) := by
  refine lt_of_lt_of_le ?_ (cntEq_mono K (Nat.succ_le_of_lt h) (K j))
  rw [Nat.succ_eq_add_one, cntEq_succ, if_pos rfl]
  exact Nat.lt_succ_self _

theorem cntLt_zero (n : ℕ) : cntLt K n 0 = 0 := by
  unfold cntLt
  rw [Finset.card_eq_zero, Finset.filter_eq_empty_iff]
  exact fun _ _ => Nat.not_lt_zero _

/-- The entries below `v + 1` are those below `v` and those at `v`. -/
theorem cntLt_succ (n v : ℕ) : cntLt K n (v + 1) = cntLt K n v + cntEq K n v := by
  unfold cntLt cntEq
  rw [← Finset.card_union_of_disjoint]
  · congr 1
    ext j
    simp only [Finset.mem_filter, Finset.mem_union, Finset.mem_range]
    omega
  · rw [Finset.disjoint_filter]
    intro j _ h e
    omega

theorem cntLt_le (n v : ℕ) : cntLt K n v ≤ n :=
  (Finset.card_filter_le _ _).trans (Finset.card_range n).le

theorem cntLt_mono (n : ℕ) {v v' : ℕ} (h : v ≤ v') : cntLt K n v ≤ cntLt K n v' :=
  Finset.card_le_card (Finset.monotone_filter_right _ fun _ _ hj => lt_of_lt_of_le hj h)

/-- Running the counts of `t` successive keys from `v` on gives the entries below `v + t`. -/
theorem cntLt_add (n v t : ℕ) : cntLt K n (v + t) = cntLt K n v + ∑ s ∈ Finset.range t, cntEq K n (v + s) := by
  induction t with
  | zero => simp
  | succ t ih => rw [← Nat.add_assoc, cntLt_succ, ih, Finset.sum_range_succ, Nat.add_assoc]

/-- A place lies below the next key's first place. -/
theorem place_lt_cntLt {n j : ℕ} (h : j < n) : place K n j < cntLt K n (K j + 1) := by
  rw [cntLt_succ]
  exact Nat.add_lt_add_left (cntEq_lt K h) _

theorem place_lt {n j : ℕ} (h : j < n) : place K n j < n :=
  lt_of_lt_of_le (place_lt_cntLt K h) (cntLt_le K n _)

/-- Entry `a` goes before entry `b`: by key, then by position. -/
def Before (a b : ℕ) : Prop := K a < K b ∨ K a = K b ∧ a < b

/-- An entry that goes before another has the smaller place. -/
theorem place_lt_place {n a b : ℕ} (ha : a < n) (h : Before K a b) : place K n a < place K n b := by
  rcases h with h | ⟨h, hab⟩
  · exact lt_of_lt_of_le (place_lt_cntLt K ha) ((cntLt_mono K n h).trans (Nat.le_add_right _ _))
  · unfold place
    rw [← h]
    exact Nat.add_lt_add_left (cntEq_lt K hab) _

/-- Two entries have different places. -/
theorem place_inj {n a b : ℕ} (ha : a < n) (hb : b < n) (h : place K n a = place K n b) : a = b := by
  by_contra hne
  have : Before K a b ∨ Before K b a := by
    unfold Before
    omega
  rcases this with hab | hab
  · exact absurd h (place_lt_place K ha hab).ne
  · exact absurd h (place_lt_place K hb hab).ne'

/-! ## The stable sort -/

/-- The order a stable sort by the keys starts from. -/
abbrev keyBefore (n : ℕ) (a b : Fin n) : Bool := decide (K a.val < K b.val)

/-- Inserting an entry that is earlier than all of a list into the list in its order leaves it in its order. -/
theorem pairwise_insert {n : ℕ} (a : Fin n) (l : List (Fin n)) (ha : ∀ b ∈ l, a < b)
    (hl : l.Pairwise fun b c => Before K b.val c.val) :
    (insertBefore (keyBefore K n) a l).Pairwise fun b c => Before K b.val c.val := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl (of_decide_eq_true h)
      · exact hl.1 c hc'
    · rename_i h
      have hba : Before K a.val b.val := by
        have h1 : ¬ K b.val < K a.val := fun h' => h (decide_eq_true h')
        have h2 : a.val < b.val := ha b (List.mem_cons_self ..)
        unfold Before
        omega
      refine List.pairwise_cons.mpr ⟨fun c hc => ?_, List.pairwise_cons.mpr hl⟩
      rcases List.mem_cons.mp hc with rfl | hc'
      · exact hba
      · have hbc := hl.1 c hc'
        have h2 : a.val < c.val := ha c (List.mem_cons_of_mem _ hc')
        unfold Before at *
        omega

/-- The stable sort of a list of ascending positions is in order, ties by position. -/
theorem pairwise_sort {n : ℕ} (l : List (Fin n)) (hl : l.Pairwise (· < ·)) :
    (stableSort (keyBefore K n) l).Pairwise fun b c => Before K b.val c.val := by
  induction l with
  | nil => exact List.Pairwise.nil
  | cons a l ih =>
    rw [List.pairwise_cons] at hl
    unfold stableSort
    exact pairwise_insert K a _ (fun b hb => hl.1 b ((perm_stableSort _ l).mem_iff.mp hb)) (ih hl.2)

/-- Of two positions of the sorted order, the earlier one's entry goes before the later one's. -/
theorem before_sortedFrom {n : ℕ} {p q : Fin n} (h : p < q) :
    Before K (sortedFrom (keyBefore K n) p).val (sortedFrom (keyBefore K n) q).val := by
  have hp : ∀ a b : Fin (sortPositions n (keyBefore K n)).length, a < b →
      Before K ((sortPositions n (keyBefore K n)).get a).val ((sortPositions n (keyBefore K n)).get b).val :=
    List.pairwise_iff_get.mp (pairwise_sort K (List.finRange n) (List.pairwise_lt_finRange n))
  unfold sortedFrom
  exact hp _ _ (by simp only [Fin.lt_def, Fin.val_cast]; exact h)

/-- The entry that the stable sort puts at position `p` has the place `p`. -/
theorem place_sortedFrom {n : ℕ} (p : Fin n) : place K n (sortedFrom (keyBefore K n) p).val = p.val := by
  let f : Fin n → Fin n := fun p => ⟨place K n (sortedFrom (keyBefore K n) p).val, place_lt K (Fin.isLt _)⟩
  have hf : StrictMono f := fun a b h => place_lt_place K (Fin.isLt _) (before_sortedFrom K h)
  have hle : f p ≤ p := hf.apply_le
  have hge : p ≤ f p := hf.le_apply
  exact congrArg Fin.val (le_antisymm hle hge)

/-- The stable sort puts entry `j` at its place. -/
theorem sortedFrom_place {n : ℕ} (j p : Fin n) (h : p.val = place K n j.val) : sortedFrom (keyBefore K n) p = j :=
  Fin.ext (place_inj K (Fin.isLt _) j.isLt ((place_sortedFrom K p).trans h))

end Cert.CountingSort
-- ==== Proof.Lanes.lean ====
/- What the vector operations of a counting sort do, in numbers: the running count of equal lanes, the running sum, the
   running maximum, and a scatter whose lanes name different elements. -/
module

public import proofs.«01_k».proof.Proof.Counting
public import Mathlib.Algebra.Order.BigOperators.Group.Finset

@[expose] public section

namespace Cert.CountingSort

open Idealize.ShloMosaic

/-- Sixteen lanes. -/
abbrev Lanes : Shape := ⟨1, ![16]⟩

/-- Lane `k`. -/
abbrev lane (k : Fin 16) : Lanes.Idx := Shape.ofLane (d := ![16]) k

theorem lane_zero (k : Fin 16) : lane k 0 = k := rfl

theorem eq_lane (x : Lanes.Idx) : x = lane (x 0) := by
  funext a
  have : a = 0 := Subsingleton.elim _ _
  subst this
  rfl

theorem lane_ext {x y : Lanes.Idx} (h : (x 0).val = (y 0).val) : x = y := by
  rw [eq_lane x, eq_lane y]
  exact congrArg lane (Fin.ext h)

/-! ## The running count of equal lanes -/

section scan_count
variable {v : IVec Lanes 32} {A : ℕ → ℕ} (hv : ∀ x : Lanes.Idx, (v x).toNat = A (x 0).val)
include hv

/-- A lane's count is the number of lanes up to it that hold its word. -/
theorem scanCount_counts (x : Lanes.Idx) :
    ((scanCount (fun _ => 1#1) v).2 x).toNat = cntEq A ((x 0).val + 1) (A (x 0).val) := by
  have hcard : (Finset.univ.filter fun j : Lanes.Idx =>
      (Lanes.rowMajor j).val ≤ (Lanes.rowMajor x).val ∧ (1#1 : BitVec 1) = 1 ∧ v j = v x).card
      = cntEq A ((x 0).val + 1) (A (x 0).val) := by
    unfold cntEq
    refine Finset.card_bij (fun j _ => (j 0).val) (fun j hj => ?_) (fun a _ b _ h => lane_ext h) (fun t ht => ?_)
    · simp only [Finset.mem_filter, Finset.mem_univ, true_and, Shape.rowMajor_val_one] at hj
      rw [Finset.mem_filter, Finset.mem_range]
      exact ⟨Nat.lt_succ_of_le hj.1, by rw [← hv, ← hv, hj.2.2]⟩
    · rw [Finset.mem_filter, Finset.mem_range] at ht
      have hlt : t < 16 := lt_of_lt_of_le ht.1 (x 0).isLt
      refine ⟨lane ⟨t, hlt⟩, ?_, rfl⟩
      simp only [Finset.mem_filter, Finset.mem_univ, true_and, Shape.rowMajor_val_one]
      refine ⟨Nat.le_of_lt_succ ht.1, rfl, BitVec.eq_of_toNat_eq ?_⟩
      rw [hv, hv]
      exact ht.2
  have h32 : cntEq A ((x 0).val + 1) (A (x 0).val) < 2 ^ 32 :=
    lt_of_le_of_lt (cntEq_le A _ _) (lt_of_le_of_lt (Nat.succ_le_of_lt (x 0).isLt) (show 16 < 2 ^ 32 by decide))
  unfold scanCount
  simp only [hcard]
  rw [if_pos (show (1#1 : BitVec 1) = 1 from rfl), BitVec.toNat_ofNat, Nat.mod_eq_of_lt h32]

/-- A lane is marked when no later lane holds its word. -/
theorem scanCount_last (x : Lanes.Idx) :
    (scanCount (fun _ => 1#1) v).1 x = 1 ↔ ∀ y : Lanes.Idx, (x 0).val < (y 0).val → A (y 0).val ≠ A (x 0).val := by
  unfold scanCount
  simp only [Shape.rowMajor_val_one]
  constructor
  · intro h y hxy e
    split at h
    · rename_i hc
      exact hc.2 y hxy ⟨rfl, BitVec.eq_of_toNat_eq (by rw [hv, hv, e])⟩
    · exact absurd h (by decide)
  · intro h
    rw [if_pos]
    refine ⟨rfl, fun y hxy hc => h y hxy ?_⟩
    rw [← hv, ← hv, hc.2]

/-- Two marked lanes holding one word are the same lane. -/
theorem scanCount_last_unique {x y : Lanes.Idx} (hx : (scanCount (fun _ => 1#1) v).1 x = 1)
    (hy : (scanCount (fun _ => 1#1) v).1 y = 1) (h : A (x 0).val = A (y 0).val) : x = y := by
  rcases Nat.lt_trichotomy (x 0).val (y 0).val with hlt | he | hlt
  · exact absurd h.symm ((scanCount_last hv x).mp hx y hlt)
  · exact lane_ext he
  · exact absurd h ((scanCount_last hv y).mp hy x hlt)

/-- A word that some lane holds is held by a marked lane. -/
theorem exists_last {k : ℕ} (h : ∃ x : Lanes.Idx, A (x 0).val = k) :
    ∃ x : Lanes.Idx, (scanCount (fun _ => 1#1) v).1 x = 1 ∧ A (x 0).val = k := by
  obtain ⟨x, hx⟩ := h
  let s : Finset (Fin 16) := Finset.univ.filter fun t => A t.val = k
  have hs : s.Nonempty := ⟨x 0, Finset.mem_filter.mpr ⟨Finset.mem_univ _, hx⟩⟩
  have hm := Finset.max'_mem s hs
  simp only [s, Finset.mem_filter, Finset.mem_univ, true_and] at hm
  refine ⟨lane (s.max' hs), (scanCount_last hv _).mpr fun y hy e => ?_, hm⟩
  have hyk : y 0 ∈ s := Finset.mem_filter.mpr ⟨Finset.mem_univ _, e.trans hm⟩
  exact absurd (Finset.le_max' s _ hyk) (not_le.mpr hy)

/-- At a marked lane the running count is the count over all sixteen lanes. -/
theorem cntEq_of_last {x : Lanes.Idx} (hx : (scanCount (fun _ => 1#1) v).1 x = 1) :
    cntEq A ((x 0).val + 1) (A (x 0).val) = cntEq A 16 (A (x 0).val) := by
  have h16 : 16 = ((x 0).val + 1) + (16 - ((x 0).val + 1)) := by
    have : (x 0).val < 16 := (x 0).isLt
    omega
  conv_rhs => rw [h16, cntEq_add]
  refine (Nat.add_eq_left.mpr (cntEq_eq_zero _ fun t ht => ?_)).symm
  have hlt : (x 0).val + 1 + t < 16 := by omega
  exact (scanCount_last hv x).mp hx (lane ⟨(x 0).val + 1 + t, hlt⟩)
    (show (x 0).val < (x 0).val + 1 + t by omega)

end scan_count

/-! ## Running sums and maxima -/

theorem scan_lane_zero (kind : ScanKind) (v : IVec Lanes 32) : scan kind v (lane 0) = v (lane 0) := by
  unfold scan
  have h : ((List.finRange 16).filter fun k : Fin 16 => decide (0 < k.val ∧ k.val ≤ (lane 0 0).val)) = [] := by decide
  exact congrArg (List.foldl _ _) h

/-- A running scan's next lane takes one more word in. -/
theorem scan_lane_succ (kind : ScanKind) (v : IVec Lanes 32) (t : ℕ) (h : t + 1 < 16) :
    scan kind v (lane ⟨t + 1, h⟩) = kind.step (scan kind v (lane ⟨t, by omega⟩)) (v (lane ⟨t + 1, h⟩)) := by
  have hl : ∀ t : Fin 15, ((List.finRange 16).filter fun k : Fin 16 => decide (0 < k.val ∧ k.val ≤ t.val + 1))
      = ((List.finRange 16).filter fun k : Fin 16 => decide (0 < k.val ∧ k.val ≤ t.val)) ++ [t.succ] := by decide
  have := congrArg (List.foldl (fun r k => kind.step r (v (lane k))) (v (lane 0))) (hl ⟨t, by omega⟩)
  rw [List.foldl_append] at this
  exact this

/-- The running sum at a lane is the sum of the words up to it, when all sixteen add up below `2 ^ 32`. -/
theorem scan_sum {v : IVec Lanes 32} {A : ℕ → ℕ} (hv : ∀ x : Lanes.Idx, (v x).toNat = A (x 0).val)
    (hb : ∑ s ∈ Finset.range 16, A s < 2 ^ 32) (x : Lanes.Idx) :
    (scan .sum v x).toNat = ∑ s ∈ Finset.range ((x 0).val + 1), A s := by
  suffices H : ∀ (t : ℕ) (h : t < 16), (scan .sum v (lane ⟨t, h⟩)).toNat = ∑ s ∈ Finset.range (t + 1), A s by
    rw [eq_lane x]
    exact H _ _
  intro t
  induction t with
  | zero =>
    intro h
    rw [show lane ⟨0, h⟩ = lane 0 from rfl, scan_lane_zero, hv, lane_zero]
    simp
  | succ t ih =>
    intro h
    have hle : ∑ s ∈ Finset.range (t + 1 + 1), A s ≤ ∑ s ∈ Finset.range 16, A s :=
      Finset.sum_le_sum_of_subset (Finset.range_mono (by omega))
    rw [scan_lane_succ, Finset.sum_range_succ, ScanKind.step]
    rw [Finset.sum_range_succ] at hle
    show (_ + _ : BitVec 32).toNat = _
    rw [BitVec.toNat_add, ih, hv, lane_zero, Nat.mod_eq_of_lt (lt_of_le_of_lt hle hb)]

/-- The running maximum of words that do not decrease is the words. -/
theorem scan_max {v : IVec Lanes 32} (hm : ∀ (t : ℕ) (h : t + 1 < 16), (v (lane ⟨t, by omega⟩)).toNat ≤ (v (lane ⟨t + 1, h⟩)).toNat)
    (x : Lanes.Idx) : scan .max v x = v x := by
  suffices H : ∀ (t : ℕ) (h : t < 16), scan .max v (lane ⟨t, h⟩) = v (lane ⟨t, h⟩) by
    rw [eq_lane x]
    exact H _ _
  intro t
  induction t with
  | zero => exact fun h => scan_lane_zero _ _
  | succ t ih =>
    intro h
    rw [scan_lane_succ, ih, ScanKind.step]
    have := hm t h
    unfold IntOp.maxui
    split
    · rename_i hc
      simp only [BitVec.ult, decide_eq_true_eq] at hc
      omega
    · rfl

/-! ## Scatters -/

section scatter
variable {F : FTy → Type} [FloatOps F] {n : ℕ} {e : EltTy}
variable (f : Vec F ⟨1, ![n]⟩ e) (idxs : Fin 1 → IVec Lanes 32) (v : Vec F Lanes e) (mask : IVec Lanes 1) (add : Bool)
variable (h : ∀ a x, (idxs a x).toNat < (⟨1, ![n]⟩ : Shape).size a)

/-- One lane's write of a scatter. -/
abbrev scatterStep (g : Vec F ⟨1, ![n]⟩ e) (k : Fin 16) : Vec F ⟨1, ![n]⟩ e :=
  let x := lane k
  if mask x = 1 then
    let i := idxAt (s := ⟨1, ![n]⟩) idxs h x
    let y := if add then Elt.idxAdd e (g i) (v x) else v x
    fun j => if (∀ a, (j a).val = (i a).val) then y else g j
  else g

theorem scatterStep_miss (g : Vec F ⟨1, ![n]⟩ e) (k : Fin 16) (j : (⟨1, ![n]⟩ : Shape).Idx)
    (hk : mask (lane k) = 1 → (idxs 0 (lane k)).toNat ≠ (j 0).val) :
    scatterStep idxs v mask add h g k j = g j := by
  unfold scatterStep
  simp only
  split
  · rename_i hm
    exact if_neg fun hj => hk hm (hj 0).symm
  · rfl

theorem scatterStep_hit (g : Vec F ⟨1, ![n]⟩ e) (k : Fin 16) (j : (⟨1, ![n]⟩ : Shape).Idx)
    (hm : mask (lane k) = 1) (hk : (idxs 0 (lane k)).toNat = (j 0).val) :
    scatterStep idxs v mask add h g k j = if add then Elt.idxAdd e (g j) (v (lane k)) else v (lane k) := by
  have hi : idxAt (s := ⟨1, ![n]⟩) idxs h (lane k) = j := by
    funext a
    have : a = 0 := Subsingleton.elim _ _
    subst this
    exact Fin.ext hk
  unfold scatterStep
  simp only [hi]
  rw [if_pos hm, if_pos fun _ => rfl]

theorem foldl_scatterStep_miss (l : List (Fin 16)) (g : Vec F ⟨1, ![n]⟩ e) (j : (⟨1, ![n]⟩ : Shape).Idx)
    (hk : ∀ k ∈ l, mask (lane k) = 1 → (idxs 0 (lane k)).toNat ≠ (j 0).val) :
    l.foldl (scatterStep idxs v mask add h) g j = g j := by
  induction l generalizing g with
  | nil => rfl
  | cons k l ih =>
    rw [List.foldl_cons, ih _ fun k' hk' => hk k' (List.mem_cons_of_mem _ hk')]
    exact scatterStep_miss idxs v mask add h g k j (hk k (List.mem_cons_self ..))

theorem foldl_scatterStep_hit (l : List (Fin 16)) (hl : l.Nodup) (g : Vec F ⟨1, ![n]⟩ e) (j : (⟨1, ![n]⟩ : Shape).Idx)
    (k₀ : Fin 16) (hk₀ : k₀ ∈ l) (hm : mask (lane k₀) = 1) (hj : (idxs 0 (lane k₀)).toNat = (j 0).val)
    (hu : ∀ k, mask (lane k) = 1 → (idxs 0 (lane k)).toNat = (j 0).val → k = k₀) :
    l.foldl (scatterStep idxs v mask add h) g j = if add then Elt.idxAdd e (g j) (v (lane k₀)) else v (lane k₀) := by
  induction l generalizing g with
  | nil => exact absurd hk₀ List.not_mem_nil
  | cons k l ih =>
    rw [List.nodup_cons] at hl
    rw [List.foldl_cons]
    rcases List.mem_cons.mp hk₀ with he | hin
    · subst he
      rw [foldl_scatterStep_miss idxs v mask add h l _ j fun k' hk' hm' hj' => hl.1 (hu k' hm' hj' ▸ hk')]
      exact scatterStep_hit idxs v mask add h g k₀ j hm hj
    · rw [ih hl.2 _ hin, scatterStep_miss idxs v mask add h g k j]
      intro hm' hj'
      exact hl.1 (hu k hm' hj' ▸ hin)

/-- An element no marked lane names is not written. -/
theorem storeIdx_miss (j : (⟨1, ![n]⟩ : Shape).Idx)
    (hk : ∀ x : Lanes.Idx, mask x = 1 → (idxs 0 x).toNat ≠ (j 0).val) :
    storeIdx (s := ⟨1, ![n]⟩) (d := ![16]) f idxs v mask add h j = f j :=
  foldl_scatterStep_miss idxs v mask add h (List.finRange 16) f j fun k _ => hk (lane k)

/-- An element that exactly one marked lane names gets that lane's word, or has it added. -/
theorem storeIdx_hit (j : (⟨1, ![n]⟩ : Shape).Idx) (x : Lanes.Idx) (hm : mask x = 1) (hj : (idxs 0 x).toNat = (j 0).val)
    (hu : ∀ y : Lanes.Idx, mask y = 1 → (idxs 0 y).toNat = (j 0).val → y = x) :
    storeIdx (s := ⟨1, ![n]⟩) (d := ![16]) f idxs v mask add h j
      = if add then Elt.idxAdd e (f j) (v x) else v x := by
  rw [eq_lane x] at hm hj ⊢
  refine foldl_scatterStep_hit idxs v mask add h (List.finRange 16) (List.nodup_finRange 16) f j (x 0)
    (List.mem_finRange _) hm hj fun k hk hk' => ?_
  exact congrFun (hu (lane k) hk hk') 0

end scatter

end Cert.CountingSort
-- ==== Proof.Steps.lean ====
/- One trip of each of the sort's four loops, as a fact about the contents of its buffers: the keys' table, the histogram,
   the running places, and the two sorted rows. `K` is the row's keys by position; a trip works on the sixteen entries from
   `16 * i` on. -/
module

public import proofs.«01_k».proof.Proof.Lanes
public import Idealize.ShloMosaic.Lib.Pipeline.Value

@[expose] public section

namespace Cert.CountingSort

open Idealize.ShloMosaic

/-- A row of 4096 entries. -/
abbrev Row : Shape := ⟨1, ![4096]⟩

/-- The row's index at position `k`. -/
abbrev at' (k : ℕ) (h : k < 4096) : Row.Idx := Shape.Idx.ofFin ⟨k, h⟩

theorem row_ext {p q : Row.Idx} (h : (p 0).val = (q 0).val) : p = q := by
  rw [Shape.Idx.eq_ofFin p, Shape.Idx.eq_ofFin q]
  exact congrArg Shape.Idx.ofFin (Fin.ext h)

/-- The sixteen lanes hold the row's entries from `16 * i` on. -/
def Chunk {α : Type} (i : ℕ) (v : Lanes.Idx → α) (f : Row.Idx → α) : Prop :=
  ∀ (x : Lanes.Idx) (j : Row.Idx), (j 0).val = 16 * i + (x 0).val → v x = f j

/-- `f'` is `f` with the sixteen entries from `16 * i` on replaced by the lanes of `v`. -/
def Written {α : Type} (i : ℕ) (v : Lanes.Idx → α) (f f' : Row.Idx → α) : Prop :=
  Chunk i v f' ∧ ∀ j : Row.Idx, (∀ x : Lanes.Idx, (j 0).val ≠ 16 * i + (x 0).val) → f' j = f j

/-- The words hold the keys. -/
def Keys (K : ℕ → ℕ) (kw : Row.Idx → BitVec 32) : Prop := ∀ j : Row.Idx, (kw j).toNat = K (j 0).val

/-- The first loop's invariant: the first `16 * i` counters are zero. -/
def Zeroed (i : ℕ) (h : Row.Idx → BitVec 32) : Prop := ∀ j : Row.Idx, (j 0).val < 16 * i → h j = 0#32

/-- The second loop's: each counter is the count of its key among the first `16 * i` entries. -/
def Hist (K : ℕ → ℕ) (i : ℕ) (h : Row.Idx → BitVec 32) : Prop := ∀ j : Row.Idx, (h j).toNat = cntEq K (16 * i) (j 0).val

/-- The third loop's: each of the first `16 * i` running places is its key's first place. -/
def Cum (K : ℕ → ℕ) (i : ℕ) (c : Row.Idx → BitVec 32) : Prop :=
  ∀ j : Row.Idx, (j 0).val < 16 * i → (c j).toNat = cntLt K 4096 (j 0).val

/-- The fourth loop's: each running place is the next free one of its key. -/
def Cur (K : ℕ → ℕ) (i : ℕ) (c : Row.Idx → BitVec 32) : Prop :=
  ∀ j : Row.Idx, (c j).toNat = cntLt K 4096 (j 0).val + cntEq K (16 * i) (j 0).val

/-- The fourth loop's: the first `16 * i` entries of `x` are at their places in `o`. -/
def Placed {α : Type} (K : ℕ → ℕ) (i : ℕ) (x o : Row.Idx → α) : Prop :=
  ∀ j p : Row.Idx, (j 0).val < 16 * i → (p 0).val = place K 4096 (j 0).val → o p = x j

/-- The position of lane `x` of trip `i`. -/
theorem pos_lt {i : ℕ} (hi : i < 256) (x : Lanes.Idx) : 16 * i + (x 0).val < 4096 := by
  have : (x 0).val < 16 := (x 0).isLt
  omega

theorem Chunk.at {α : Type} {i : ℕ} {v : Lanes.Idx → α} {f : Row.Idx → α} (h : Chunk i v f) (hi : i < 256) (x : Lanes.Idx) :
    v x = f (at' (16 * i + (x 0).val) (pos_lt hi x)) := h x _ rfl

/-- The lanes of a chunk of the keys hold the keys from `16 * i` on. -/
theorem Keys.chunk {K : ℕ → ℕ} {kw : Row.Idx → BitVec 32} (hk : Keys K kw) {i : ℕ} (hi : i < 256) {v : IVec Lanes 32}
    (hv : Chunk i v kw) (x : Lanes.Idx) : (v x).toNat = K (16 * i + (x 0).val) := by
  rw [hv.at hi x]
  exact hk _

/-! ## The first loop -/

theorem zeroed_zero (h : Row.Idx → BitVec 32) : Zeroed 0 h := fun _ hj => absurd hj (Nat.not_lt_zero _)

theorem zeroed_step {i : ℕ} {h h' : Row.Idx → BitVec 32} {v : IVec Lanes 32} (hz : Zeroed i h) (hv : ∀ x, v x = 0#32)
    (hw : Written i v h h') : Zeroed (i + 1) h' := by
  intro j hj
  by_cases hc : (j 0).val < 16 * i
  · rw [hw.2 j fun x => by omega]
    exact hz j hc
  · have hlt : (j 0).val - 16 * i < 16 := by omega
    rw [← hw.1 (lane ⟨(j 0).val - 16 * i, hlt⟩) j (show (j 0).val = 16 * i + ((j 0).val - 16 * i) by omega)]
    exact hv _

/-- All the counters zero is the histogram of no entry. -/
theorem hist_zero {K : ℕ → ℕ} {h : Row.Idx → BitVec 32} (hz : Zeroed 256 h) : Hist K 0 h := by
  intro j
  rw [hz j (show (j 0).val < 16 * 256 from (j 0).isLt)]
  rfl

/-! ## The second loop -/

/-- The running count of sixteen different words is one everywhere. -/
theorem iota_counts (hio : Lanes.Iotas .scVector 32 [0]) :
    (scanCount (fun _ => 1#1) (iota .scVector Lanes 32 [0] hio)).2 = fun _ => 1#32 := by
  funext x
  have hv : ∀ x : Lanes.Idx, (iota .scVector Lanes 32 [0] hio x).toNat = id (x 0).val := by
    intro x
    have hx : (x 0).val < 16 := (x 0).isLt
    show (BitVec.ofNat 32 (0 * 16 + (x 0).val)).toNat = (x 0).val
    rw [BitVec.toNat_ofNat, Nat.mod_eq_of_lt] <;> omega
  apply BitVec.eq_of_toNat_eq
  rw [scanCount_counts hv, cntEq_succ, if_pos rfl, cntEq_eq_zero]
  · rfl
  · exact fun t ht => ht.ne

section counts
variable {K : ℕ → ℕ} {i : ℕ} {v : IVec Lanes 32} (hv : ∀ x : Lanes.Idx, (v x).toNat = K (16 * i + (x 0).val))
include hv

/-- A marked lane's running count is its key's count over the trip's entries; sixteen entries further the count of a key
    has grown by that. -/
theorem cntEq_trip (k : ℕ) : cntEq K (16 * (i + 1)) k = cntEq K (16 * i) k + cntEq (fun s => K (16 * i + s)) 16 k := by
  rw [show 16 * (i + 1) = 16 * i + 16 by omega, cntEq_add]

variable {F : FTy → Type} [FloatOps F]

theorem hist_step {h h' : Vec F Row .i32} (hh : Hist K i h) (hi : i < 256) {inc : IVec Lanes 32}
    (hinc : ∀ x, inc x = (scanCount (fun _ => 1#1) v).2 x)
    (hb : ∀ a x, ((![v] : Fin 1 → IVec Lanes 32) a x).toNat < Row.size a)
    (he : h' = storeIdx (F := F) (e := .i32) (s := Row) (d := ![16]) h ![v] inc (scanCount (fun _ => 1#1) v).1 true hb) :
    Hist K (i + 1) h' := by
  intro j
  subst he
  rw [cntEq_trip hv]
  by_cases hx : ∃ x : Lanes.Idx, K (16 * i + (x 0).val) = (j 0).val
  · obtain ⟨x, hm, hxj⟩ := exists_last (A := fun s => K (16 * i + s)) hv hx
    rw [storeIdx_hit (n := 4096) (F := F) (e := .i32) h ![v] inc _ true hb j x hm ((hv x).trans hxj)
      fun y hy hyj => scanCount_last_unique (A := fun s => K (16 * i + s)) hv hy hm
        (((hv y).symm.trans hyj).trans hxj.symm), if_pos rfl]
    show (h j + inc x : BitVec 32).toNat = _
    rw [BitVec.toNat_add, hh j, hinc, scanCount_counts (A := fun s => K (16 * i + s)) hv,
      cntEq_of_last (A := fun s => K (16 * i + s)) hv hm, hxj, Nat.mod_eq_of_lt]
    have h1 := cntEq_le K (16 * i) (j 0).val
    have h2 := cntEq_le (fun s => K (16 * i + s)) 16 (j 0).val
    omega
  · rw [storeIdx_miss (n := 4096) (F := F) (e := .i32) h ![v] inc _ true hb j
      fun x _ hxj => hx ⟨x, (hv x).symm.trans hxj⟩]
    rw [hh j, cntEq_eq_zero (fun s => K (16 * i + s)) fun t ht => fun e => hx ⟨lane ⟨t, ht⟩, e⟩, Nat.add_zero]

end counts

/-! ## The third loop -/

theorem cum_zero (K : ℕ → ℕ) (c : Row.Idx → BitVec 32) : Cum K 0 c := fun _ hj => absurd hj (Nat.not_lt_zero _)

/-- Flipping the sign bit of a word below `2 ^ 31` adds `2 ^ 31` to it. -/
theorem toNat_flip {w : BitVec 32} (h : w.toNat < 2 ^ 31) : (w ^^^ 2147483648#32).toNat = 2 ^ 31 + w.toNat := by
  rw [BitVec.toNat_xor, show (2147483648#32).toNat = 2 ^ 31 from rfl]
  apply Nat.eq_of_testBit_eq
  intro b
  rw [show 2 ^ 31 + w.toNat = 2 ^ 31 * 1 + w.toNat from rfl, Nat.two_pow_add_eq_or_of_lt h, Nat.mul_one, Nat.testBit_xor, Nat.testBit_or, Nat.testBit_two_pow]
  by_cases hb : 31 = b
  · subst hb
    rw [Nat.testBit_lt_two_pow h]
    rfl
  · simp [hb]

theorem flip_flip (w : BitVec 32) : (w ^^^ 2147483648#32) ^^^ 2147483648#32 = w := by
  rw [BitVec.xor_assoc, BitVec.xor_self, BitVec.xor_zero]

section prefix_sums
variable {K : ℕ → ℕ} {i : ℕ} {v : IVec Lanes 32} (hi : i < 256)
variable (hv : ∀ x : Lanes.Idx, (v x).toNat = cntEq K 4096 (16 * i + (x 0).val))
include hv

/-- The running sum of sixteen counters and the carry are the entries below the lane's next key. -/
theorem scan_counts (x : Lanes.Idx) :
    cntLt K 4096 (16 * i) + (scan .sum v x).toNat = cntLt K 4096 (16 * i + ((x 0).val + 1)) := by
  rw [scan_sum (A := fun s => cntEq K 4096 (16 * i + s)) hv, cntLt_add]
  have := cntLt_add K 4096 (16 * i) 16
  have := cntLt_le K 4096 (16 * i + 16)
  omega

theorem scan_counts_le (x : Lanes.Idx) : (scan .sum v x).toNat ≤ 4096 := by
  have := scan_counts hv x
  have := cntLt_le K 4096 (16 * i + ((x 0).val + 1))
  omega

/-- The third loop's stored words: each lane's running sum less its own counter, and the carry. -/
theorem place_counts {b : BitVec 32} (hb : b.toNat = cntLt K 4096 (16 * i)) (x : Lanes.Idx) :
    ((scan .sum v x - v x) + b : BitVec 32).toNat = cntLt K 4096 (16 * i + (x 0).val) := by
  have h1 := scan_counts hv x
  have h2 := scan_counts_le hv x
  have h3 := cntLt_le K 4096 (16 * i + (x 0).val)
  have h4 := cntLt_le K 4096 (16 * i)
  rw [← Nat.add_assoc, cntLt_succ, ← hv x] at h1
  have h5 := cntLt_mono K 4096 (Nat.le_add_right (16 * i) (x 0).val)
  have h6 : (scan .sum v x - v x).toNat = (scan .sum v x).toNat - (v x).toNat :=
    BitVec.toNat_sub_of_le (by rw [BitVec.le_def]; omega)
  rw [BitVec.toNat_add, h6, hb, Nat.mod_eq_of_lt] <;> omega

/-- The running maximum of the sums, taken with the sign bit flipped before and after, is the sums. -/
theorem scan_max_counts (x : Lanes.Idx) :
    (scan .max (fun y => scan .sum v y ^^^ 2147483648#32) x) ^^^ 2147483648#32 = scan .sum v x := by
  rw [scan_max, flip_flip]
  intro t h
  rw [toNat_flip (lt_of_le_of_lt (scan_counts_le hv _) (by decide)),
    toNat_flip (lt_of_le_of_lt (scan_counts_le hv _) (by decide))]
  have h1 := scan_counts hv (lane ⟨t, by omega⟩)
  have h2 := scan_counts hv (lane ⟨t + 1, h⟩)
  have h3 := cntLt_mono K 4096 (show 16 * i + (t + 1) ≤ 16 * i + (t + 1 + 1) by omega)
  simp only [lane_zero] at h1 h2
  omega

/-- The carry after the trip. -/
theorem carry_counts {b : BitVec 32} (hb : b.toNat = cntLt K 4096 (16 * i)) :
    (b + scan .sum v (lane 15) : BitVec 32).toNat = cntLt K 4096 (16 * (i + 1)) := by
  have h1 := scan_counts hv (lane 15)
  have h2 := cntLt_le K 4096 (16 * (i + 1))
  rw [show 16 * i + ((lane 15 0).val + 1) = 16 * (i + 1) by rw [lane_zero]; show 16 * i + (15 + 1) = _; omega] at h1
  rw [BitVec.toNat_add, hb, h1, Nat.mod_eq_of_lt]
  omega

theorem cum_step {b : BitVec 32} (hb : b.toNat = cntLt K 4096 (16 * i)) {c c' : Row.Idx → BitVec 32} {w : IVec Lanes 32}
    (hw : ∀ x, w x = (scan .sum v x - v x) + b) (hc : Cum K i c) (hs : Written i w c c') : Cum K (i + 1) c' := by
  intro j hj
  by_cases hl : (j 0).val < 16 * i
  · rw [hs.2 j fun x => by omega]
    exact hc j hl
  · have hlt : (j 0).val - 16 * i < 16 := by omega
    have he : (j 0).val = 16 * i + (lane ⟨(j 0).val - 16 * i, hlt⟩ 0).val :=
      show (j 0).val = 16 * i + ((j 0).val - 16 * i) by omega
    rw [← hs.1 (lane ⟨(j 0).val - 16 * i, hlt⟩) j he, hw, place_counts hv hb, ← he]

end prefix_sums

/-- The lanes of a chunk of the finished histogram. -/
theorem Hist.chunk {K : ℕ → ℕ} {h : Row.Idx → BitVec 32} (hh : Hist K 256 h) {i : ℕ} (hi : i < 256) {v : IVec Lanes 32}
    (hv : Chunk i v h) (x : Lanes.Idx) : (v x).toNat = cntEq K 4096 (16 * i + (x 0).val) := by
  rw [hv.at hi x]
  exact hh _

/-- The finished running places are the fourth loop's first. -/
theorem cur_zero {K : ℕ → ℕ} {c : Row.Idx → BitVec 32} (hc : Cum K 256 c) : Cur K 0 c := fun j =>
  hc j (show (j 0).val < 16 * 256 from (j 0).isLt)

/-! ## The fourth loop -/

section permute
variable {K : ℕ → ℕ} {i : ℕ} {v : IVec Lanes 32} (hi : i < 256)
variable (hv : ∀ x : Lanes.Idx, (v x).toNat = K (16 * i + (x 0).val))
include hi hv

/-- A lane's running place with its rank among the trip's equal keys is the place of its entry. -/
theorem place_lane {c : Row.Idx → BitVec 32} (hc : Cur K i c) {w : IVec Lanes 32}
    (hw : ∀ (x : Lanes.Idx) (j : Row.Idx), (j 0).val = (v x).toNat → w x = c j + ((scanCount (fun _ => 1#1) v).2 x - 1#32))
    (hb : ∀ x, (v x).toNat < 4096) (x : Lanes.Idx) : (w x).toNat = place K 4096 (16 * i + (x 0).val) := by
  have hlt := place_lt K (pos_lt hi x)
  rw [hw x (at' _ (hb x)) rfl]
  have h1 : ((scanCount (fun _ => 1#1) v).2 x - 1#32).toNat = cntEq (fun s => K (16 * i + s)) (x 0).val (K (16 * i + (x 0).val)) := by
    have h2 := scanCount_counts (A := fun s => K (16 * i + s)) hv x
    rw [cntEq_succ, if_pos rfl] at h2
    rw [BitVec.toNat_sub_of_le (by rw [BitVec.le_def, h2]; exact Nat.le_add_left _ _), h2]
    rfl
  have h3 := hc (at' _ (hb x))
  rw [show ((at' (v x).toNat (hb x)) 0).val = K (16 * i + (x 0).val) from hv x] at h3
  unfold place at hlt ⊢
  rw [cntEq_add] at hlt ⊢
  rw [BitVec.toNat_add, h1, h3, Nat.mod_eq_of_lt] <;> omega

variable {F : FTy → Type} [FloatOps F]

theorem cur_step {c c' : Vec F Row .i32} (hc : Cur K i c) {w nxt : IVec Lanes 32}
    (hw : ∀ x, (w x).toNat = place K 4096 (16 * i + (x 0).val)) (hn : ∀ x, nxt x = w x + 1#32)
    (hb : ∀ a x, ((![v] : Fin 1 → IVec Lanes 32) a x).toNat < Row.size a)
    (he : c' = storeIdx (F := F) (e := .i32) (s := Row) (d := ![16]) c ![v] nxt (scanCount (fun _ => 1#1) v).1 false hb) :
    Cur K (i + 1) c' := by
  intro j
  subst he
  rw [cntEq_trip hv]
  by_cases hx : ∃ x : Lanes.Idx, K (16 * i + (x 0).val) = (j 0).val
  · obtain ⟨x, hm, hxj⟩ := exists_last (A := fun s => K (16 * i + s)) hv hx
    rw [storeIdx_hit (n := 4096) (F := F) (e := .i32) c ![v] nxt _ false hb j x hm ((hv x).trans hxj)
      fun y hy hyj => scanCount_last_unique (A := fun s => K (16 * i + s)) hv hy hm
        (((hv y).symm.trans hyj).trans hxj.symm), if_neg (by decide)]
    have h1 := cntEq_of_last (A := fun s => K (16 * i + s)) hv hm
    rw [cntEq_succ, if_pos rfl] at h1
    have hlt := place_lt K (pos_lt hi x)
    rw [hn, BitVec.toNat_add, hw]
    show (place K 4096 (16 * i + (x 0).val) + 1) % 2 ^ 32 = _
    rw [Nat.mod_eq_of_lt (by omega)]
    unfold place
    rw [cntEq_add]
    simp only [hxj] at h1 ⊢
    omega
  · rw [storeIdx_miss (n := 4096) (F := F) (e := .i32) c ![v] nxt _ false hb j
      fun x _ hxj => hx ⟨x, (hv x).symm.trans hxj⟩]
    rw [hc j, cntEq_eq_zero (fun s => K (16 * i + s)) fun t ht => fun e => hx ⟨lane ⟨t, ht⟩, e⟩, Nat.add_zero]

omit hv in
theorem placed_step {e : EltTy} {x o o' : Vec F Row e} (ho : Placed K i x o) {w : IVec Lanes 32} {y : Vec F Lanes e}
    (hw : ∀ x, (w x).toNat = place K 4096 (16 * i + (x 0).val)) (hy : Chunk i y x)
    (hb : ∀ a x, ((![w] : Fin 1 → IVec Lanes 32) a x).toNat < Row.size a)
    (he : o' = storeIdx (F := F) (e := e) (s := Row) (d := ![16]) o ![w] y (fun _ => 1#1) false hb) :
    Placed K (i + 1) x o' := by
  intro j p hj hp
  subst he
  by_cases hl : (j 0).val < 16 * i
  · rw [storeIdx_miss (n := 4096) (F := F) o ![w] y _ false hb p fun l _ hlp => ?_]
    · exact ho j p hl hp
    · have hp' := ((hw l).symm.trans hlp).trans hp
      have := place_inj K (pos_lt hi l) (j 0).isLt hp'
      omega
  · have hlt : (j 0).val - 16 * i < 16 := by omega
    have he : (j 0).val = 16 * i + (lane ⟨(j 0).val - 16 * i, hlt⟩ 0).val :=
      show (j 0).val = 16 * i + ((j 0).val - 16 * i) by omega
    rw [storeIdx_hit (n := 4096) (F := F) o ![w] y _ false hb p (lane ⟨(j 0).val - 16 * i, hlt⟩) rfl
      ((hw _).trans (by rw [← he, hp])) fun l _ hlp => ?_, if_neg (by decide)]
    · exact hy _ j he
    · have hp' := ((hw l).symm.trans hlp).trans hp
      have := place_inj K (pos_lt hi l) (j 0).isLt hp'
      exact lane_ext (by omega)

end permute

theorem placed_zero {α : Type} (K : ℕ → ℕ) (x o : Row.Idx → α) : Placed K 0 x o := fun _ _ hj => absurd hj (Nat.not_lt_zero _)

/-- After the fourth loop position `p` of the sorted row holds the entry the stable sort puts there. -/
theorem placed_sorted {α : Type} {K : ℕ → ℕ} {x o : Row.Idx → α} (h : Placed K 256 x o) (p : Row.Idx) :
    o p = x (Shape.Idx.ofFin (sortedFrom (keyBefore K 4096) (p 0))) := by
  have hp : place K 4096 (sortedFrom (keyBefore K 4096) (p 0)).val = (p 0).val := place_sortedFrom K (p 0)
  generalize sortedFrom (keyBefore K 4096) (p 0) = q at hp ⊢
  refine h _ p ?_ ?_
  · rw [Shape.Idx.ofFin_zero]
    exact q.isLt
  · rw [Shape.Idx.ofFin_zero]
    exact hp.symm

end Cert.CountingSort
-- ==== Proof.Rows.lean ====
/- The two sorted arrays: each row of 4096 entries put in the order in which a stable sort puts the row's keys. -/
module

public import proofs.«01_k».proof.Proof.Steps

@[expose] public section

namespace Cert.CountingSort

open Idealize.ShloMosaic

/-- Sixteen rows of 4096 entries. -/
abbrev Mat : Shape := ⟨2, ![16, 4096]⟩

/-- The index of entry `j` of row `r`. -/
def cell (r : Fin 16) (j : Fin 4096) : Mat.Idx :=
  fun | 0 => r | 1 => j | ⟨_ + 2, h⟩ => absurd h (Nat.not_lt.2 (Nat.le_add_left _ _))

theorem cell_zero (r : Fin 16) (j : Fin 4096) : cell r j 0 = r := rfl
theorem cell_one (r : Fin 16) (j : Fin 4096) : cell r j 1 = j := rfl

theorem mat_ext {p q : Mat.Idx} (h0 : (p 0).val = (q 0).val) (h1 : (p 1).val = (q 1).val) : p = q := by
  funext a
  match a with
  | 0 => exact Fin.ext h0
  | 1 => exact Fin.ext h1

theorem eq_cell (p : Mat.Idx) : p = cell (p 0) (p 1) := mat_ext rfl rfl

/-- The indices of row `w` (none, from `16` on). -/
def rowSet (w : ℕ) : Finset Mat.Idx := Finset.univ.filter fun p => (p 0).val = w

theorem mem_rowSet {w : ℕ} {p : Mat.Idx} : p ∈ rowSet w ↔ (p 0).val = w := by
  unfold rowSet
  rw [Finset.mem_filter]
  exact and_iff_right (Finset.mem_univ _)

theorem rowSet_eq_empty {w : ℕ} (h : 16 ≤ w) : rowSet w = ∅ := by
  rw [Finset.eq_empty_iff_forall_notMem]
  intro p hp
  have h0 : (p 0).val < 16 := (p 0).isLt
  have h1 := mem_rowSet.mp hp
  omega

theorem rowSet_disjoint {v w : ℕ} (h : v ≠ w) : Disjoint (rowSet v) (rowSet w) := by
  rw [Finset.disjoint_left]
  exact fun p hv hw => h ((mem_rowSet.mp hv).symm.trans (mem_rowSet.mp hw))

/-! ## The rows dealt to two cores of sixteen tasks: task `i` of core `c` has row `2 * i + c` -/

theorem tasks_disjoint (c : ℕ) : ∀ i ∈ (Finset.univ : Finset (Fin 16)), ∀ j ∈ (Finset.univ : Finset (Fin 16)), i ≠ j →
    Disjoint (rowSet (2 * i.val + c)) (rowSet (2 * j.val + c)) :=
  fun i _ j _ h => rowSet_disjoint fun e => h (Fin.ext (by omega))

/-- The rows of one core. -/
def coreSet (c : Fin 2) : Finset Mat.Idx := Finset.univ.biUnion fun i : Fin 16 => rowSet (2 * i.val + c.val)

theorem mem_coreSet {c : Fin 2} {p : Mat.Idx} : p ∈ coreSet c ↔ (p 0).val % 2 = c.val := by
  unfold coreSet
  rw [Finset.mem_biUnion]
  have hc : c.val < 2 := c.isLt
  have hp : (p 0).val < 16 := (p 0).isLt
  constructor
  · rintro ⟨i, -, hi⟩
    have := mem_rowSet.mp hi
    omega
  · intro h
    refine ⟨⟨(p 0).val / 2, by omega⟩, Finset.mem_univ _, mem_rowSet.mpr ?_⟩
    show (p 0).val = 2 * ((p 0).val / 2) + c.val
    omega

theorem cores_disjoint : ∀ c ∈ (Finset.univ : Finset (Fin 2)), ∀ c' ∈ (Finset.univ : Finset (Fin 2)), c ≠ c' → Disjoint (coreSet c) (coreSet c') := by
  intro c _ c' _ h
  rw [Finset.disjoint_left]
  exact fun p hp hp' => h (Fin.ext ((mem_coreSet.mp hp).symm.trans (mem_coreSet.mp hp')))

theorem cores_cover : (Finset.univ : Finset (Fin 2)).biUnion coreSet = Finset.univ := by
  ext p
  rw [Finset.mem_biUnion]
  exact ⟨fun _ => Finset.mem_univ _, fun _ => ⟨⟨(p 0).val % 2, Nat.mod_lt _ (by decide)⟩, Finset.mem_univ _, mem_coreSet.mpr rfl⟩⟩

/-- Row `r` of an array. -/
def rowOf {α : Type} (x : Mat.Idx → α) (r : Fin 16) : Row.Idx → α := fun p => x (cell r (p 0))

/-- The keys of row `r`, by position. -/
def keysOf (y : Mat.Idx → BitVec 32) (r : Fin 16) : ℕ → ℕ := fun t => if h : t < 4096 then (y (cell r ⟨t, h⟩)).toNat else 0

theorem keysOf_lt (y : Mat.Idx → BitVec 32) (r : Fin 16) (j : Fin 4096) : keysOf y r j.val = (y (cell r j)).toNat := dif_pos j.isLt

theorem keys_rowOf (y : Mat.Idx → BitVec 32) (r : Fin 16) : Keys (keysOf y r) (rowOf y r) := fun j => (keysOf_lt y r (j 0)).symm

/-- Entry `t` of row `r` put in the order of its keys `y`, equal keys in their first order. -/
def sortedAt {α : Type} (y : Mat.Idx → BitVec 32) (x : Mat.Idx → α) (r : Fin 16) (t : Fin 4096) : α :=
  x (cell r (sortedFrom (keyBefore (keysOf y r) 4096) t))

/-- The array with each row in the order of its keys. -/
def sortedRows {α : Type} (y : Mat.Idx → BitVec 32) (x : Mat.Idx → α) : Mat.Idx → α := fun p => sortedAt y x (p 0) (p 1)

theorem sortedRows_cell {α : Type} (y : Mat.Idx → BitVec 32) (x : Mat.Idx → α) (r : Fin 16) (t : Fin 4096) :
    sortedRows y x (cell r t) = sortedAt y x r t := rfl

/-- A row whose entries are all placed is the sorted array's row. -/
theorem sortedRows_of_placed {α : Type} {y : Mat.Idx → BitVec 32} {x : Mat.Idx → α} {r : Fin 16} {o : Row.Idx → α}
    (h : Placed (keysOf y r) 256 (rowOf x r) o) (p : Row.Idx) : sortedRows y x (cell r (p 0)) = o p := by
  rw [placed_sorted h p]
  refine (sortedRows_cell y x r (p 0)).trans ?_
  unfold sortedAt
  generalize sortedFrom (keyBefore (keysOf y r) 4096) (p 0) = q
  rfl

end Cert.CountingSort
-- ==== Proof.Access.lean ====
/- Loads and stores of sixteen entries of a row, read as facts about the row's contents. -/
module

public import proofs.«01_k».proof.Proof.Rows
public import Idealize.ShloMosaic.Lib.Writes

@[expose] public section

namespace Cert.CountingSort

open Idealize.ShloMosaic

variable {sig : RefSig} {κ : Kind} {sp : Space} {e : EltTy} {Val : EltTy → Type} {i : ℕ} {off : Fin 1 → ℕ}

/-- The row's entry under lane `x` of the sixteen entries from `16 * i` on. -/
theorem emb_chunk (hoff : off = ![16 * i]) (inb : ∀ a, off a + Lanes.size a ≤ Row.size a) {x : Lanes.Idx} {j : Row.Idx}
    (h : (j 0).val = 16 * i + (x 0).val) : (Rect.unit (s := Row) off Lanes.size inb).emb x = j := by
  subst hoff
  refine row_ext ?_
  rw [Rect.emb_apply, h]
  show 16 * i + 1 * (x 0).val = _
  omega

/-- A load of the sixteen entries from `16 * i` on. -/
theorem chunk_load (v : View sig κ sp Row e) (f : v.ty.Contents Val) (hoff : off = ![16 * i])
    (inb : ∀ a, off a + Lanes.size a ≤ Row.size a) :
    Chunk i (v.readAt Val (Rect.unit (s := Row) off Lanes.size inb).toLoadRect f) (v.read Val f) := by
  intro x j h
  rw [View.readAt_rect, View.read_apply, View.read_apply, ← emb_chunk hoff inb h]
  rfl

/-- A store of the sixteen entries from `16 * i` on. -/
theorem written_store (v : View sig κ sp Row e) (f : v.ty.Contents Val) (hoff : off = ![16 * i])
    (inb : ∀ a, off a + Lanes.size a ≤ Row.size a) (w : Lanes.Idx → Val e) :
    Written i w (v.read Val f) (v.read Val (v.writes Val f [⟨Rect.unit (s := Row) off Lanes.size inb, w⟩])) := by
  constructor
  · intro x j h
    rw [← emb_chunk hoff inb h]
    exact (View.read_slice_write_emb (Rect.unit (s := Row) off Lanes.size inb) f w (Finset.mem_univ x)).symm
  · intro j h
    refine View.read_slice_write_of_not_mem (Rect.unit (s := Row) off Lanes.size inb) f w Finset.univ fun hm => ?_
    obtain ⟨x, -, hx⟩ := Finset.mem_map.mp hm
    refine h x ?_
    rw [← hx, Rect.emb_apply]
    subst hoff
    show 16 * i + 1 * (x 0).val = _
    omega

end Cert.CountingSort
-- ==== Proof.KernelIdealSetup.lean ====
/- The kernel as its launch needs it: the arrays, the row that a task has, the task's scratches and semaphores. Task
   `wid = 2 * s + c` on tile `s` of core `c` sorts row `wid` if that is below 16, and does nothing otherwise. `F` is the
   float instance; nothing here reads a float. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Access
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.CountingSort

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels, the launch's configuration, the threads' definitions and the variants, as the program gives them. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and none of them is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's resources: the handshakes' rounds and the transfers' counters. -/
abbrev UH : Type := URounds (GSem nD τ sig) ℕ
abbrev UU : Type := UH × Counters

local notation "𝕄" => MT nD τ sig (HIx 1) (Elt F) ℕ UU ℕ

/-- The handshakes' rounds among the launch's resources. -/
abbrev EH : Emb UH (MT nD τ sig (HIx 1) (Elt F) ℕ UU ℕ) := embL

/-! ## The arrays -/

variable (m : (ℓ : Loc nD τ sig) → Buf (Elt F) ℓ)

/-- The values, the positions, and the two results, as locations of device `d`. -/
abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0_0
abbrev qLoc (d : Dev nD) : Loc nD τ sig := (SparseCore.T d).loc main_v0_1

local notation "xV" => (Memref.whole Cert.KernelIdeal.main_arg0_scv : Memref Cert.KernelIdeal.sig Kind.scVector Space.hbm Cert.KernelIdeal.S16x4096 EltTy.f32)
local notation "kV" => (Memref.whole Cert.KernelIdeal.main_arg1_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.f32)
local notation "qV" => (Memref.whole Cert.KernelIdeal.main_v0_1_scv : Memref Cert.KernelIdeal.sig Kind.scVector Space.hbm Cert.KernelIdeal.S16x4096 EltTy.i32)
local notation "sK" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S4096 EltTy.f32)
local notation "sH" => (Memref.whole Cert.KernelIdeal.cc0_scratch2 : Memref Cert.KernelIdeal.sig Kind.scVector Space.vmem Cert.KernelIdeal.S4096 EltTy.i32)
local notation "sC" => (Memref.whole Cert.KernelIdeal.cc0_scratch3 : Memref Cert.KernelIdeal.sig Kind.scVector Space.vmem Cert.KernelIdeal.S4096 EltTy.i32)
local notation "sQ" => (Memref.whole Cert.KernelIdeal.cc0_scratch4 : Memref Cert.KernelIdeal.sig Kind.scVector Space.vmem Cert.KernelIdeal.S4096 EltTy.i32)
local notation "sO" => (Memref.whole Cert.KernelIdeal.cc0_scratch5 : Memref Cert.KernelIdeal.sig Kind.scVector Space.vmem Cert.KernelIdeal.S4096 EltTy.f32)

/-- The two results: the values and the positions with each row in the order of its positions. -/
abbrev outX (d : Dev nD) : Buf (Elt F) (oLoc d) := sortedRows (m (kLoc d)) (m (xLoc d))
abbrev outK (d : Dev nD) : Buf (Elt F) (qLoc d) := sortedRows (m (kLoc d)) (m (kLoc d))

/-- Row `w` of the four arrays, before and after (no element, from `16` on). -/
abbrev rowsIn (d : Dev nD) (w : ℕ) : sProp 𝕄 :=
  iprop((xLoc d ↦[rowSet w]{fullShare} m (xLoc d)) ∗ (kLoc d ↦[rowSet w]{fullShare} m (kLoc d))
    ∗ (oLoc d ↦[rowSet w]{fullShare} m (oLoc d)) ∗ (qLoc d ↦[rowSet w]{fullShare} m (qLoc d)))
abbrev rowsOut (d : Dev nD) (w : ℕ) : sProp 𝕄 :=
  iprop((xLoc d ↦[rowSet w]{fullShare} m (xLoc d)) ∗ (kLoc d ↦[rowSet w]{fullShare} m (kLoc d))
    ∗ (oLoc d ↦[rowSet w]{fullShare} outX m d) ∗ (qLoc d ↦[rowSet w]{fullShare} outK m d))

/-! ## The task -/

section Tile

variable (d : Dev nD) (L : grid0.Coords)

/-- The core and the tile that run the task at `L`. -/
abbrev cV (L : grid0.Coords) : Fin τ.nSC := (L 0).castLE hcore0
abbrev jV (L : grid0.Coords) : Fin τ.nSub := (L 1).castLE hsub0

/-- The task's row. -/
abbrev wid (L : grid0.Coords) : ℕ := 2 * (L 1).val + (L 0).val

/-- The body's guard holds for the tasks that have a row. -/
theorem cond_iff : k0_cond1 L = 1#1 ↔ wid L < 16 := by
  have : ∀ c : Fin (grid0.bound 0), ∀ s : Fin (grid0.bound 1), k0_cond1 (fun | 0 => c | 1 => s | ⟨_ + 2, h⟩ => absurd h (Nat.not_lt.2 (Nat.le_add_left _ _))) = 1#1 ↔ 2 * s.val + c.val < 16 := by
    decide
  have h := this (L 0) (L 1)
  have hL : L = (fun | 0 => L 0 | 1 => L 1 | ⟨_ + 2, h⟩ => absurd h (Nat.not_lt.2 (Nat.le_add_left _ _))) := by
    funext a
    match a with
    | 0 => rfl
    | 1 => rfl
  rw [hL]
  exact h

variable (h1 : k0_cond1 L = 1#1)

/-- The task's row as the body addresses it in each of the four arrays. -/
abbrev rowK : Rect S16x4096 := Rect.unit (s := S16x4096) (k0_off1 L) S1x4096.size (k0_off1_inb L h1)
abbrev xRow : Memref sig .scVector .hbm S4096 .f32 := ((xV).slice (rowK L h1) (fun _ => rfl)).squeeze S4096 squeezes_S1x4096_S4096
abbrev kRow : Memref sig .scVector .hbm S4096 .i32 := ((kV).slice (rowK L h1) (fun _ => rfl)).squeeze S4096 squeezes_S1x4096_S4096
abbrev oRow : Memref sig .scVector .hbm S4096 .f32 := ((oV).slice (rowK L h1) (fun _ => rfl)).squeeze S4096 squeezes_S1x4096_S4096
abbrev qRow : Memref sig .scVector .hbm S4096 .i32 := ((qV).slice (rowK L h1) (fun _ => rfl)).squeeze S4096 squeezes_S1x4096_S4096

/-- The task's row number as an index. -/
abbrev rowIx : Fin 16 := ⟨wid L, (cond_iff L).mp h1⟩

/-- Entry `p` of the task's row is entry `p` of row `wid`. -/
theorem emb_rowK (p : S4096.Idx) :
    (rowK L h1).emb (Shape.reshapeEquiv squeezes_S1x4096_S4096.numel_eq p) = cell (rowIx L h1) (p 0) := by
  rw [show (Shape.reshapeEquiv squeezes_S1x4096_S4096.numel_eq p : S1x4096.Idx) = Fin.cons ⟨0, Nat.one_pos⟩ p from
    Shape.reshapeEquiv_cons_one _ p]
  refine mat_ext ?_ ?_
  · rw [Rect.emb_apply]
    show k0_off1 L 0 + 1 * 0 = wid L
    rw [k0_off1_eq]
    rfl
  · rw [Rect.emb_apply]
    show k0_off1 L 1 + 1 * (p 0).val = (p 0).val
    rw [k0_off1_eq]
    show 0 + 1 * (p 0).val = (p 0).val
    omega

/-- So it is in each of the four arrays. -/
theorem emb_xRow (p : S4096.Idx) : (xRow L h1).view.emb p = cell (rowIx L h1) (p 0) := emb_rowK L h1 p
theorem emb_kRow (p : S4096.Idx) : (kRow L h1).view.emb p = cell (rowIx L h1) (p 0) := emb_rowK L h1 p
theorem emb_oRow (p : S4096.Idx) : (oRow L h1).view.emb p = cell (rowIx L h1) (p 0) := emb_rowK L h1 p
theorem emb_qRow (p : S4096.Idx) : (qRow L h1).view.emb p = cell (rowIx L h1) (p 0) := emb_rowK L h1 p

/-- The elements a task's window covers are those of its row. -/
theorem set_xRow : (xRow L h1).view.set = rowSet (wid L) := by
  ext p
  rw [mem_rowSet, View.set, Finset.mem_map]
  constructor
  · rintro ⟨y, -, rfl⟩
    rw [emb_xRow]
    rfl
  · intro h
    exact ⟨Shape.Idx.ofFin (p 1), Finset.mem_univ _, (emb_xRow L h1 _).trans (mat_ext h.symm rfl)⟩
theorem set_kRow : (kRow L h1).view.set = rowSet (wid L) := set_xRow L h1
theorem set_oRow : (oRow L h1).view.set = rowSet (wid L) := set_xRow L h1
theorem set_qRow : (qRow L h1).view.set = rowSet (wid L) := set_xRow L h1

/-- The row's elements, in the body's spelling. -/
theorem pts_xRow (f : Buf (Elt F) (xLoc d)) :
    ((xRow L h1).view.loc (V d (cV L) (jV L)) ↦[(xRow L h1).view.set]{fullShare} f : sProp 𝕄) = xLoc d ↦[rowSet (wid L)]{fullShare} f := by
  rw [set_xRow]
theorem pts_kRow (f : Buf (Elt F) (kLoc d)) :
    ((kRow L h1).view.loc (V d (cV L) (jV L)) ↦[(kRow L h1).view.set]{fullShare} f : sProp 𝕄) = kLoc d ↦[rowSet (wid L)]{fullShare} f := by
  rw [set_kRow]
theorem pts_oRow (f : Buf (Elt F) (oLoc d)) :
    ((oRow L h1).view.loc (V d (cV L) (jV L)) ↦[(oRow L h1).view.set]{fullShare} f : sProp 𝕄) = oLoc d ↦[rowSet (wid L)]{fullShare} f := by
  rw [set_oRow]
theorem pts_qRow (f : Buf (Elt F) (qLoc d)) :
    ((qRow L h1).view.loc (V d (cV L) (jV L)) ↦[(qRow L h1).view.set]{fullShare} f : sProp 𝕄) = qLoc d ↦[rowSet (wid L)]{fullShare} f := by
  rw [set_qRow]

/-- The four semaphore cells of the row's copies. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

/-- The task's semaphore counters at zero: those of its four copies, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide, (mem_ownCells (g := cell3 d (cV L) (jV L))).mpr ⟨rfl, by
        show (SemLoc.dma cc0_scoped3.sem : SemLoc sig).isScoped .scVector = true; decide⟩⟩⟩⟩)]

/-- The task's buffers: the six scratches in the body's order, and the rest. -/
abbrev scr (b : Ref sig .scVector) : DevRef τ sig := (Proc.scVector (cV L) (jV L)).devRef b
abbrev rest : Finset (DevRef τ sig) :=
  ((((((ownRefs (τ := τ) (.scVector (cV L) (jV L))).erase (scr L cc0_scratch0)).erase (scr L cc0_scratch1)).erase (scr L cc0_scratch2)).erase
    (scr L cc0_scratch3)).erase (scr L cc0_scratch4)).erase (scr L cc0_scratch5)

/-- Distinct scratches are distinct buffers. -/
theorem scr_ne {a b : Ref sig .scVector} (h : a ≠ b) : scr L a ≠ scr L b := fun e => h (Proc.devRef_injective _ e)

/-- The task's own buffers: its six scratches at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f)
          ∗ bigSep (rest L) fun b => iprop(∃ f, ((d, b) : Loc nD τ sig) ↦{fullShare} f)) := by
  have own (b : Ref sig .scVector) (h : (scr L b).owner = .proc (.scVector (cV L) (jV L))) :
      scr L b ∈ ownRefs (τ := τ) (.scVector (cV L) (jV L)) := SparseCore.Cfg.mem_ownRefs_of_owner h
  have ne {a b : Ref sig .scVector} (h : b ≠ a) {s : Finset (DevRef τ sig)} (hs : scr L b ∈ s) : scr L b ∈ s.erase (scr L a) :=
    Finset.mem_erase.mpr ⟨scr_ne L h, hs⟩
  unfold SparseCore.Cfg.ownBufs rest
  refine (SparseCore.bigSep_erase' (own cc0_scratch0 rfl)).trans ?_
  rw [SparseCore.bigSep_erase' (ne (by decide) (own cc0_scratch1 rfl)),
    SparseCore.bigSep_erase' (ne (by decide) (ne (by decide) (own cc0_scratch2 rfl))),
    SparseCore.bigSep_erase' (ne (by decide) (ne (by decide) (ne (by decide) (own cc0_scratch3 rfl)))),
    SparseCore.bigSep_erase' (ne (by decide) (ne (by decide) (ne (by decide) (ne (by decide) (own cc0_scratch4 rfl))))),
    SparseCore.bigSep_erase' (ne (by decide) (ne (by decide) (ne (by decide) (ne (by decide) (ne (by decide) (own cc0_scratch5 rfl))))))]

/-- The scratches whole, in the body's spelling. -/
theorem pts_sK (f : Buf (Elt F) ((V d (cV L) (jV L)).loc cc0_scratch0)) :
    ((sK).view.loc (V d (cV L) (jV L)) ↦{fullShare} f : sProp 𝕄) = (V d (cV L) (jV L)).loc cc0_scratch0 ↦{fullShare} f := rfl
theorem pts_sX (f : Buf (Elt F) ((V d (cV L) (jV L)).loc cc0_scratch1)) :
    ((sX).view.loc (V d (cV L) (jV L)) ↦{fullShare} f : sProp 𝕄) = (V d (cV L) (jV L)).loc cc0_scratch1 ↦{fullShare} f := rfl
theorem pts_sH (f : Buf (Elt F) ((V d (cV L) (jV L)).loc cc0_scratch2)) :
    ((sH).view.loc (V d (cV L) (jV L)) ↦{fullShare} f : sProp 𝕄) = (V d (cV L) (jV L)).loc cc0_scratch2 ↦{fullShare} f := rfl
theorem pts_sC (f : Buf (Elt F) ((V d (cV L) (jV L)).loc cc0_scratch3)) :
    ((sC).view.loc (V d (cV L) (jV L)) ↦{fullShare} f : sProp 𝕄) = (V d (cV L) (jV L)).loc cc0_scratch3 ↦{fullShare} f := rfl
theorem pts_sQ (f : Buf (Elt F) ((V d (cV L) (jV L)).loc cc0_scratch4)) :
    ((sQ).view.loc (V d (cV L) (jV L)) ↦{fullShare} f : sProp 𝕄) = (V d (cV L) (jV L)).loc cc0_scratch4 ↦{fullShare} f := rfl
theorem pts_sO (f : Buf (Elt F) ((V d (cV L) (jV L)).loc cc0_scratch5)) :
    ((sO).view.loc (V d (cV L) (jV L)) ↦{fullShare} f : sProp 𝕄) = (V d (cV L) (jV L)).loc cc0_scratch5 ↦{fullShare} f := rfl

end Tile

end Cert.Proof.KernelIdeal

end
-- ==== Proof.KernelIdealLoops.lean ====
/- The four loops of a task's body, one trip each at a symbolic trip: what a loop's invariant says of the scratches before
   a trip, it says of the next trip after it. The loops zero the counters, count the keys, turn the counts into places, and
   put every entry in its place. -/
module

public import proofs.«01_k».proof.Proof.KernelIdealSetup

@[expose] public section

noncomputable section

namespace Cert.Proof.KernelIdeal

open Cert.KernelIdeal Cert.KernelIdeal.Gen Cert.CountingSort

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16x4096 EltTy.f32)
local notation "kV" => (Memref.whole Cert.KernelIdeal.main_arg1_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.f32)
local notation "qV" => (Memref.whole Cert.KernelIdeal.main_v0_1_scv : Memref Cert.KernelIdeal.sig Kind.scVector Space.hbm Cert.KernelIdeal.S16x4096 EltTy.i32)
local notation "sK" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S4096 EltTy.f32)
local notation "sH" => (Memref.whole Cert.KernelIdeal.cc0_scratch2 : Memref Cert.KernelIdeal.sig Kind.scVector Space.vmem Cert.KernelIdeal.S4096 EltTy.i32)
local notation "sC" => (Memref.whole Cert.KernelIdeal.cc0_scratch3 : Memref Cert.KernelIdeal.sig Kind.scVector Space.vmem Cert.KernelIdeal.S4096 EltTy.i32)
local notation "sQ" => (Memref.whole Cert.KernelIdeal.cc0_scratch4 : Memref Cert.KernelIdeal.sig Kind.scVector Space.vmem Cert.KernelIdeal.S4096 EltTy.i32)
local notation "sO" => (Memref.whole Cert.KernelIdeal.cc0_scratch5 : Memref Cert.KernelIdeal.sig Kind.scVector Space.vmem Cert.KernelIdeal.S4096 EltTy.f32)

variable (d : Dev nD) (L : grid0.Coords) (h1 : k0_cond1 L = 1#1)

/-- The task's thread. -/
local notation "tt" => V d (cV L) (jV L)

/-! ## The first loop: the counters zeroed -/

/-- Its invariant: the first `16 * n` counters are zero. -/
def inv1 (n : Nat) (_ : PUnit) : sProp 𝕄 :=
  iprop(∃ f : Buf (Elt F) ((tt).loc cc0_scratch2), ⌜Zeroed n f⌝ ∗ ((sH).view.loc tt ↦{fullShare} f))

/-- A trip zeroes sixteen more counters. -/
theorem trip1 (k : Fin k0_t1_loop.trips) (acc : PUnit) :
    inv1 (F := F) d L k.val acc ⊢ wp frame (wpE (defs₀ (F := F)) 𝒱₀ tt none) Set.univ
      (k0_t1_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3 h1 k acc)
      fun acc' => inv1 d L (k.val + 1) acc' := by
  unfold inv1 k0_t1_body
  iintro ⟨%f, %hf, H2⟩
  sl_exec
  sl_step
  iexists _
  isplitr
  swap; · iexact H2
  ipureintro
  refine zeroed_step hf (v := k0_pay3) (fun x => ?_) (written_store (sH).view f (k0_off2_eq k) _ _)
  unfold k0_pay3
  rw [shapeCast_self]
  rfl

/-! ## A scratch whole, as an indexed store addresses it -/

theorem pts_sH_acc (f : Buf (Elt F) ((tt).loc cc0_scratch2)) :
    (((sH).access (.whole S4096)).loc tt ↦[((sH).access (.whole S4096)).set]{fullShare} f : sProp 𝕄) = ((sH).view.loc tt ↦{fullShare} f) := by
  rw [show ((sH).access (.whole S4096)).set = Finset.univ from Memref.set_access_whole (cc0_scratch2 : Ref sig .scVector)]
theorem pts_sC_acc (f : Buf (Elt F) ((tt).loc cc0_scratch3)) :
    (((sC).access (.whole S4096)).loc tt ↦[((sC).access (.whole S4096)).set]{fullShare} f : sProp 𝕄) = ((sC).view.loc tt ↦{fullShare} f) := by
  rw [show ((sC).access (.whole S4096)).set = Finset.univ from Memref.set_access_whole (cc0_scratch3 : Ref sig .scVector)]
theorem pts_sQ_acc (f : Buf (Elt F) ((tt).loc cc0_scratch4)) :
    (((sQ).access (.whole S4096)).loc tt ↦[((sQ).access (.whole S4096)).set]{fullShare} f : sProp 𝕄) = ((sQ).view.loc tt ↦{fullShare} f) := by
  rw [show ((sQ).access (.whole S4096)).set = Finset.univ from Memref.set_access_whole (cc0_scratch4 : Ref sig .scVector)]
theorem pts_sO_acc (f : Buf (Elt F) ((tt).loc cc0_scratch5)) :
    (((sO).access (.whole S4096)).loc tt ↦[((sO).access (.whole S4096)).set]{fullShare} f : sProp 𝕄) = ((sO).view.loc tt ↦{fullShare} f) := by
  rw [show ((sO).access (.whole S4096)).set = Finset.univ from Memref.set_access_whole (cc0_scratch5 : Ref sig .scVector)]

/-- The bodies read the keys' lanes through a cast to their own shape. -/
abbrev lanesOf (v : IVec S16 32) : IVec S16 32 := shapeCast S16 v shapeCasts_S16_S16

/-- Lanes below 4096 name elements of a scratch of 4096. -/
theorem lanesOf_lt {v : IVec S16 32} (h : ∀ x, (v x).toNat < 4096) (a : Fin 1) (x : S16.Idx) :
    ((![lanesOf v] : Fin 1 → IVec S16 32) a x).toNat < S4096.size a := by
  obtain rfl : a = 0 := Subsingleton.elim _ _
  show (shapeCast S16 v shapeCasts_S16_S16 x).toNat < 4096
  rw [shapeCast_self]
  exact h x

/-! ## The payloads, as the steps read them -/

theorem pay2_eq : k0_pay2 = fun _ => 1#32 := iota_counts _

theorem pay6_lane (v : IVec S16 32) (x : S16.Idx) : k0_pay6 v x = (scanCount (fun _ => 1#1) v).2 x := by
  show ((scanCount (fun _ => 1#1) v).2 x - k0_pay2 x) + 1#32 = _
  rw [pay2_eq]
  exact BitVec.sub_add_cancel _ _

theorem pay9_lane (b : BitVec 32) (v : Vec F S16 .i32) (x : S16.Idx) : k0_pay9 b v x = (scan .sum v x - v x) + b := by
  unfold k0_pay9 k0_pay8 k0_pay7
  rw [shapeCast_self, shapeCast_self]
  rfl

theorem pay10_lane (v : Vec F S16 .i32) (x : S16.Idx) :
    k0_pay10 v x = (scan .max (fun y => scan .sum v y ^^^ 2147483648#32) x) ^^^ 2147483648#32 := by
  unfold k0_pay10 k0_pay8 k0_pay7
  rw [shapeCast_self]
  rfl

theorem pay14_lane (v : IVec S16 32) (c : Vec F S16 .i32) (x : S16.Idx) :
    k0_pay14 v c x = c x + ((scanCount (fun _ => 1#1) v).2 x - 1#32) := by
  show c x + ((scanCount (fun _ => 1#1) v).2 x - k0_pay2 x) = _
  rw [pay2_eq]

/-! ## The second loop: the histogram -/

variable (κ : ℕ → ℕ)

/-- Its invariant: each counter is the count of its key among the first `16 * n` entries. -/
def inv2 (kw : Buf (Elt F) ((tt).loc cc0_scratch0)) (n : Nat) (_ : PUnit) : sProp 𝕄 :=
  iprop(((sK).view.loc tt ↦{fullShare} kw)
    ∗ ∃ f : Buf (Elt F) ((tt).loc cc0_scratch2), ⌜Hist κ n f⌝ ∗ ((sH).view.loc tt ↦{fullShare} f))

/-- A trip counts sixteen more entries. -/
theorem trip2 {kw : Buf (Elt F) ((tt).loc cc0_scratch0)} (hk : Keys κ kw) (hκ : ∀ t, κ t < 4096) (k : Fin k0_t2_loop.trips) (acc : PUnit) :
    inv2 (F := F) d L κ kw k.val acc ⊢ wp frame (wpE (defs₀ (F := F)) 𝒱₀ tt none) Set.univ
      (k0_t2_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3 h1 k acc)
      fun acc' => inv2 d L κ kw (k.val + 1) acc' := by
  unfold inv2 k0_t2_body
  iintro ⟨H0, %f, %hf, H2⟩
  have hi : k.val < 256 := k.isLt
  have hv := hk.chunk hi (chunk_load (sK).view kw (k0_off3_eq k) (k0_off3_inb L k h1))
  have hchk : k0_chk1 L (lanesOf ((sK).view.readAt (Elt F) (Rect.unit (s := S4096) (k0_off3 k) S16.size (k0_off3_inb L k h1)).toLoadRect kw)) :=
    fun _ => lanesOf_lt fun x => lt_of_eq_of_lt (hv x) (hκ _)
  sl_exec
  ihave H2' := (Entails.of_eq (pts_sH_acc (F := F) d L _).symm) $$ H2
  iapply (SparseCore.wp_vectorStoreIdx 𝒱₀ tt none Set.univ (base := sH)) $$ H2'; iintro H2'
  ihave H2 := (Entails.of_eq (pts_sH_acc (F := F) d L _)) $$ H2'
  sl_step
  isplitl [H0]; · iexact H0
  iexists _
  isplitr
  swap; · iexact H2
  ipureintro
  refine hist_step (v := lanesOf _) (fun x => ?_) hf hi (pay6_lane _) (hchk h1) ?_
  · rw [lanesOf, shapeCast_self]
    exact hv x
  · rw [Memref.write_access_whole_univ, Memref.read_access_whole]
    rfl

/-! ## The third loop: the keys' first places -/

/-- Its invariant: the first `16 * n` running places are their keys' first places, and the carry is the count of the
    keys below `16 * n`. -/
def inv3 (hw : Buf (Elt F) ((tt).loc cc0_scratch2)) (n : Nat) (b : BitVec 32) : sProp 𝕄 :=
  iprop(⌜b.toNat = cntLt κ 4096 (16 * n)⌝ ∗ ((sH).view.loc tt ↦{fullShare} hw)
    ∗ ∃ f : Buf (Elt F) ((tt).loc cc0_scratch3), ⌜Cum κ n f⌝ ∗ ((sC).view.loc tt ↦{fullShare} f))

/-- A trip finds the places of sixteen more keys from their counts. -/
theorem trip3 {hw : Buf (Elt F) ((tt).loc cc0_scratch2)} (hh : Hist κ 256 hw) (k : Fin k0_t3_loop.trips) (acc : BitVec 32) :
    inv3 (F := F) d L κ hw k.val acc ⊢ wp frame (wpE (defs₀ (F := F)) 𝒱₀ tt none) Set.univ
      (k0_t3_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3 h1 k acc)
      fun acc' => inv3 d L κ hw (k.val + 1) acc' := by
  unfold inv3 k0_t3_body
  iintro ⟨%hb, H2, %f, %hf, H3⟩
  have hi : k.val < 256 := k.isLt
  have hv := hh.chunk hi (chunk_load (sH).view hw (k0_off4_eq k) (k0_off4_inb L k h1))
  sl_exec
  sl_step
  isplitr
  · ipureintro
    refine (congrArg BitVec.toNat (show _ = acc + k0_pay10 (F := F) ((sH).view.readAt (Elt F) (Rect.unit (s := S4096) (k0_off4 k) S16.size (k0_off4_inb L k h1)).toLoadRect hw) (lane 15)
      from rfl)).trans ?_
    rw [pay10_lane]
    exact (congrArg (fun w => (acc + w).toNat) (scan_max_counts hv _)).trans (carry_counts hv hb)
  isplitl [H2]; · iexact H2
  iexists _
  isplitr
  swap; · iexact H3
  ipureintro
  refine cum_step hv hb (w := k0_pay9 acc _) (pay9_lane acc _) hf (written_store (sC).view f (k0_off4_eq k) _ _)

/-! ## The fourth loop: the entries placed -/

/-- Its invariant: each running place is the next free one of its key, and the first `16 * n` entries of both rows are
    at their places. -/
def inv4 (kw : Buf (Elt F) ((tt).loc cc0_scratch0)) (xw : Buf (Elt F) ((tt).loc cc0_scratch1)) (n : Nat) (_ : PUnit) : sProp 𝕄 :=
  iprop(((sK).view.loc tt ↦{fullShare} kw) ∗ ((sX).view.loc tt ↦{fullShare} xw)
    ∗ (∃ f : Buf (Elt F) ((tt).loc cc0_scratch3), ⌜Cur κ n f⌝ ∗ ((sC).view.loc tt ↦{fullShare} f))
    ∗ (∃ f : Buf (Elt F) ((tt).loc cc0_scratch4), ⌜Placed κ n kw f⌝ ∗ ((sQ).view.loc tt ↦{fullShare} f))
    ∗ ∃ f : Buf (Elt F) ((tt).loc cc0_scratch5), ⌜Placed κ n xw f⌝ ∗ ((sO).view.loc tt ↦{fullShare} f))

/-- A trip puts sixteen more entries of both rows at their places. -/
theorem trip4 {kw : Buf (Elt F) ((tt).loc cc0_scratch0)} (xw : Buf (Elt F) ((tt).loc cc0_scratch1)) (hk : Keys κ kw) (hκ : ∀ t, κ t < 4096)
    (k : Fin k0_t4_loop.trips) (acc : PUnit) :
    inv4 (F := F) d L κ kw xw k.val acc ⊢ wp frame (wpE (defs₀ (F := F)) 𝒱₀ tt none) Set.univ
      (k0_t4_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3 h1 k acc)
      fun acc' => inv4 d L κ kw xw (k.val + 1) acc' := by
  unfold inv4 k0_t4_body
  iintro ⟨H0, H1, ⟨%fc, %hc, H3⟩, ⟨%fq, %hq, H4⟩, %fo, %ho, H5⟩
  have hi : k.val < 256 := k.isLt
  have hl := chunk_load (sK).view kw (k0_off5_eq k) (k0_off5_inb L k h1)
  have hv := hk.chunk hi hl
  have hv' : ∀ x, (lanesOf ((sK).view.readAt (Elt F) (Rect.unit (s := S4096) (k0_off5 k) S16.size (k0_off5_inb L k h1)).toLoadRect kw) x).toNat
      = κ (16 * k.val + (x 0).val) := by
    rw [lanesOf, shapeCast_self]
    exact hv
  have hlx := chunk_load (sX).view xw (k0_off5_eq k) (k0_off5_inb L k h1)
  have hchk : k0_chk2 L (lanesOf ((sK).view.readAt (Elt F) (Rect.unit (s := S4096) (k0_off5 k) S16.size (k0_off5_inb L k h1)).toLoadRect kw)) :=
    ⟨fun _ => lanesOf_lt fun x => lt_of_eq_of_lt (hv x) (hκ _), fun _ => lanesOf_lt fun x => lt_of_eq_of_lt (hv x) (hκ _)⟩
  have hw : ∀ x, (k0_pay14 (F := F) (lanesOf ((sK).view.readAt (Elt F) (Rect.unit (s := S4096) (k0_off5 k) S16.size (k0_off5_inb L k h1)).toLoadRect kw))
      (loadIdx (((sC).access (.whole S4096)).read (Elt F) fc) _ (hchk.1 h1)) x).toNat = place κ 4096 (16 * k.val + (x 0).val) := by
    refine fun x => place_lane hi (v := lanesOf _) hv' hc (fun x j hj => ?_) (fun x => lt_of_eq_of_lt (hv' x) (hκ _)) x
    rw [pay14_lane]
    refine congrArg (fun w => w + _) ?_
    exact (congrFun (Memref.read_access_whole (Elt F) cc0_scratch3 fc) _).trans (congrArg fc (row_ext hj.symm))
  have hchk3 : k0_chk3 L (k0_pay14 (F := F) (lanesOf ((sK).view.readAt (Elt F) (Rect.unit (s := S4096) (k0_off5 k) S16.size (k0_off5_inb L k h1)).toLoadRect kw))
      (loadIdx (((sC).access (.whole S4096)).read (Elt F) fc) _ (hchk.1 h1))) := by
    have hlt : ∀ (a : Fin 1) x, ((![k0_pay14 (F := F) (lanesOf ((sK).view.readAt (Elt F) (Rect.unit (s := S4096) (k0_off5 k) S16.size (k0_off5_inb L k h1)).toLoadRect kw))
        (loadIdx (((sC).access (.whole S4096)).read (Elt F) fc) _ (hchk.1 h1))] : Fin 1 → IVec S16 32) a x).toNat < S4096.size a := by
      intro a x
      obtain rfl : a = 0 := Subsingleton.elim _ _
      exact lt_of_eq_of_lt (hw x) (place_lt κ (pos_lt hi x))
    exact ⟨fun _ => hlt, fun _ => hlt⟩
  sl_exec
  ihave H3' := (Entails.of_eq (pts_sC_acc (F := F) d L _).symm) $$ H3
  iapply (SparseCore.wp_vectorLoadIdx 𝒱₀ tt none Set.univ (base := sC) (q := fullShare) subset_rfl) $$ H3'; iintro H3'
  sl_exec
  iapply (SparseCore.wp_vectorStoreIdx 𝒱₀ tt none Set.univ (base := sC)) $$ H3'; iintro H3'
  ihave H3 := (Entails.of_eq (pts_sC_acc (F := F) d L _)) $$ H3'
  ihave H5' := (Entails.of_eq (pts_sO_acc (F := F) d L _).symm) $$ H5
  iapply (SparseCore.wp_vectorStoreIdx 𝒱₀ tt none Set.univ (base := sO)) $$ H5'; iintro H5'
  ihave H5 := (Entails.of_eq (pts_sO_acc (F := F) d L _)) $$ H5'
  ihave H4' := (Entails.of_eq (pts_sQ_acc (F := F) d L _).symm) $$ H4
  iapply (SparseCore.wp_vectorStoreIdx 𝒱₀ tt none Set.univ (base := sQ)) $$ H4'; iintro H4'
  ihave H4 := (Entails.of_eq (pts_sQ_acc (F := F) d L _)) $$ H4'
  sl_step
  isplitl [H0]; · iexact H0
  isplitl [H1]; · iexact H1
  isplitl [H3]
  · iexists _
    isplitr
    swap; · iexact H3
    ipureintro
    refine cur_step hi (v := lanesOf _) hv' hc (nxt := k0_pay15 _) hw (fun _ => rfl) (hchk.2 h1) ?_
    rw [Memref.write_access_whole_univ, Memref.read_access_whole]
    rfl
  isplitl [H4]
  · iexists _
    isplitr
    swap; · iexact H4
    ipureintro
    refine placed_step (y := lanesOf _) hi hq hw (by rw [lanesOf, shapeCast_self]; exact hl) (hchk3.2 h1) ?_
    rw [Memref.write_access_whole_univ, Memref.read_access_whole]
    rfl
  · iexists _
    isplitr
    swap; · iexact H5
    ipureintro
    refine placed_step (y := k0_pay11 _) hi ho hw (by unfold k0_pay11; rw [shapeCast_self]; exact hlx) (hchk3.1 h1) ?_
    rw [Memref.write_access_whole_univ, Memref.read_access_whole]
    rfl

end Cert.Proof.KernelIdeal

end
-- ==== Proof.KernelIdealTask.lean ====
/- A task's whole body: two rows fetched, four loops, two rows written out. It leaves its row of the two results sorted,
   and a task without a row leaves everything as it was. -/
module

public import proofs.«01_k».proof.Proof.KernelIdealLoops

@[expose] public section

noncomputable section

namespace Cert.Proof.KernelIdeal

open Cert.KernelIdeal Cert.KernelIdeal.Gen Cert.CountingSort

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16x4096 EltTy.f32)
local notation "kV" => (Memref.whole Cert.KernelIdeal.main_arg1_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.f32)
local notation "qV" => (Memref.whole Cert.KernelIdeal.main_v0_1_scv : Memref Cert.KernelIdeal.sig Kind.scVector Space.hbm Cert.KernelIdeal.S16x4096 EltTy.i32)
local notation "sK" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S4096 EltTy.f32)
local notation "sH" => (Memref.whole Cert.KernelIdeal.cc0_scratch2 : Memref Cert.KernelIdeal.sig Kind.scVector Space.vmem Cert.KernelIdeal.S4096 EltTy.i32)
local notation "sC" => (Memref.whole Cert.KernelIdeal.cc0_scratch3 : Memref Cert.KernelIdeal.sig Kind.scVector Space.vmem Cert.KernelIdeal.S4096 EltTy.i32)
local notation "sQ" => (Memref.whole Cert.KernelIdeal.cc0_scratch4 : Memref Cert.KernelIdeal.sig Kind.scVector Space.vmem Cert.KernelIdeal.S4096 EltTy.i32)
local notation "sO" => (Memref.whole Cert.KernelIdeal.cc0_scratch5 : Memref Cert.KernelIdeal.sig Kind.scVector Space.vmem Cert.KernelIdeal.S4096 EltTy.f32)

variable (m : (ℓ : Loc nD τ sig) → Buf (Elt F) ℓ) (d : Dev nD) (L : grid0.Coords)

/-- The task's thread. -/
local notation "tt" => V d (cV L) (jV L)

/-- The row's keys are below 4096 where the array's words are. -/
theorem keysOf_bound {y : Mat.Idx → BitVec 32} (hy : ∀ p, (y p).toNat < 4096) (r : Fin 16) (t : ℕ) : keysOf y r t < 4096 := by
  unfold keysOf
  split
  · exact hy _
  · decide

/-! ## The copies -/

section Copies
variable (h1 : k0_cond1 L = 1#1)

/-- The keys' scratch after its copy: the row. -/
theorem fetched_keys (f : Buf (Elt F) ((tt).loc cc0_scratch0)) :
    (sK).view.write (Elt F) f ((kRow L h1).view.read (Elt F) (m (kLoc d))) Finset.univ = rowOf (m (kLoc d)) (rowIx L h1) := by
  refine (View.write_whole_univ (cc0_scratch0 : Ref sig .scVector) f _).trans ?_
  funext p
  rw [View.read_apply, emb_kRow]
  rfl

/-- The values' scratch after its copy: the row. -/
theorem fetched_vals (f : Buf (Elt F) ((tt).loc cc0_scratch1)) :
    (sX).view.write (Elt F) f ((xRow L h1).view.read (Elt F) (m (xLoc d))) Finset.univ = rowOf (m (xLoc d)) (rowIx L h1) := by
  refine (View.write_whole_univ (cc0_scratch1 : Ref sig .scVector) f _).trans ?_
  funext p
  rw [View.read_apply, emb_xRow]
  rfl

/-- An array after the copy of a whole row into row `r` holds the row there. -/
theorem whole_row {e : EltTy} (v : View sig .scVector .hbm Row e) (f : v.ty.Contents (Elt F)) (w : Row.Idx → Elt F e) {i : v.ty.Idx} {p : Row.Idx}
    (hv : v.emb p = i) :
    HEq (v.writes (Elt F) f [⟨Rect.whole Row, w⟩] i) (w p) := by
  subst hv
  have h := View.read_writes_cons_emb v f (Rect.whole Row) w [] p
  rw [Rect.emb_whole_apply, View.read_apply] at h
  exact (cast_heq _ _).symm.trans (heq_of_eq h)

/-- The values' result row after its copy, from a scratch whose entries are all placed. -/
theorem copied_vals {f : Buf (Elt F) (oLoc d)} {w : Buf (Elt F) ((tt).loc cc0_scratch5)}
    (hw : Placed (keysOf (m (kLoc d)) (rowIx L h1)) 256 (rowOf (m (xLoc d)) (rowIx L h1)) w) :
    ((oRow L h1).view.loc tt ↦[(oRow L h1).view.set]{fullShare} (oRow L h1).view.writes (Elt F) f [⟨Rect.whole S4096, w⟩] : sProp 𝕄)
      = oLoc d ↦[rowSet (wid L)]{fullShare} outX m d := by
  refine (pts_oRow d L h1 _).trans (pointsTo_congr fun i hi => ?_)
  have hc : i = cell (rowIx L h1) (i 1) := mat_ext (mem_rowSet.mp hi) rfl
  rw [hc]
  exact (eq_of_heq (whole_row (oRow L h1).view f w (emb_oRow L h1 (Shape.Idx.ofFin (i 1))))).trans (sortedRows_of_placed hw (Shape.Idx.ofFin (i 1))).symm

/-- The positions' result row, likewise. -/
theorem copied_keys {f : Buf (Elt F) (qLoc d)} {w : Buf (Elt F) ((tt).loc cc0_scratch4)}
    (hw : Placed (keysOf (m (kLoc d)) (rowIx L h1)) 256 (rowOf (m (kLoc d)) (rowIx L h1)) w) :
    ((qRow L h1).view.loc tt ↦[(qRow L h1).view.set]{fullShare} (qRow L h1).view.writes (Elt F) f [⟨Rect.whole S4096, w⟩] : sProp 𝕄)
      = qLoc d ↦[rowSet (wid L)]{fullShare} outK m d := by
  refine (pts_qRow d L h1 _).trans (pointsTo_congr fun i hi => ?_)
  have hc : i = cell (rowIx L h1) (i 1) := mat_ext (mem_rowSet.mp hi) rfl
  rw [hc]
  exact (eq_of_heq (whole_row (qRow L h1).view f w (emb_qRow L h1 (Shape.Idx.ofFin (i 1))))).trans (sortedRows_of_placed hw (Shape.Idx.ofFin (i 1))).symm

end Copies

/-! ## The task's run -/

theorem tile_body_work (hm : ∀ p, (m (kLoc d) p).toNat < 4096) (k0_h1 : k0_cond1 L = 1#1) (hF : (K (F := F)).Facts) (O : CellTallies nD τ sig (HIx 1)) (W : Waits sig (HIx 1)) (hO : ∀ g, O g none = 0) :
    iprop(levAts (K (F := F)).L (K (F := F)).lev ∗ emp ∗ rowsIn m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sort_row_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3)
          fun _ => iprop(rowsOut m d (wid L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  have hκ := keysOf_bound hm (rowIx L k0_h1)
  have hk := keys_rowOf (m (kLoc d)) (rowIx L k0_h1)
  have hfk := fetched_keys m d L k0_h1
  have hfx := fetched_vals m d L k0_h1
  rw [(K (F := F)).scopedBufs_V hF d (cV L) (jV L), SparseCore.Cfg.scopedSems0_V (Val := Elt F) d (cV L) (jV L), ownSems0_V, ownBufs_V]
  simp only [cc0__sort_row_body_eq_skeleton]; unfold cc0__sort_row_body_skel
  rw [dif_pos k0_h1, k0_part1_eq_skeleton]; unfold k0_part1_skel
  simp only [Prog.bind_assoc]
  iintro ⟨#Hlv, -, ⟨Hx, Hk, Ho, Hq⟩, ⟨⟨%f0, H0⟩, ⟨%f1, H1⟩, ⟨%f2, H2⟩, ⟨%f3, H3⟩, ⟨%f4, H4⟩, ⟨%f5, H5⟩, Hbufs⟩, ⟨Hs0, Hs1, Hs2, Hs3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRow (F := F) d L k0_h1 _).symm) $$ Hx
  ihave Hk' := (Entails.of_eq (pts_kRow (F := F) d L k0_h1 _).symm) $$ Hk
  ihave Ho' := (Entails.of_eq (pts_oRow (F := F) d L k0_h1 _).symm) $$ Ho
  ihave Hq' := (Entails.of_eq (pts_qRow (F := F) d L k0_h1 _).symm) $$ Hq
  ihave H0' := (Entails.of_eq (pts_sK (F := F) d L _).symm) $$ H0
  ihave H1' := (Entails.of_eq (pts_sX (F := F) d L _).symm) $$ H1
  ihave H2' := (Entails.of_eq (pts_sH (F := F) d L _).symm) $$ H2
  ihave H3' := (Entails.of_eq (pts_sC (F := F) d L _).symm) $$ H3
  ihave H4' := (Entails.of_eq (pts_sQ (F := F) d L _).symm) $$ H4
  ihave H5' := (Entails.of_eq (pts_sO (F := F) d L _).symm) $$ H5
  sl_exec
  sl_for (inv1 d L) $$ [H2']
  case region => exact trip1 d L k0_h1
  · unfold inv1
    iexists _
    isplitr
    swap; · iexact H2'
    ipureintro; exact zeroed_zero _
  iintro %_ HI
  unfold inv1
  icases HI with ⟨%fz, %hz, H2⟩
  sl_for (inv2 d L _ (rowOf (m (kLoc d)) (rowIx L k0_h1))) $$ [H0' H2]
  case region => exact trip2 d L k0_h1 _ hk hκ
  · unfold inv2
    isplitl [H0']
    · iapply (Entails.of_eq (congrArg (fun f => ((sK).view.loc tt ↦{fullShare} f : sProp 𝕄)) (hfk f0))); iexact H0'
    iexists _
    isplitr
    swap; · iexact H2
    ipureintro; exact hist_zero hz
  iintro %_ HI
  unfold inv2
  icases HI with ⟨H0, %fh, %hh, H2⟩
  sl_for (inv3 d L _ fh) $$ [H2 H3']
  case region => exact trip3 d L k0_h1 _ hh
  · unfold inv3
    isplitr; · ipureintro; rfl
    isplitl [H2]; · iexact H2
    iexists _
    isplitr
    swap; · iexact H3'
    ipureintro; exact cum_zero _ _
  iintro %_ HI
  unfold inv3
  icases HI with ⟨-, H2, %fc, %hc, H3⟩
  sl_for (inv4 d L _ _ (rowOf (m (xLoc d)) (rowIx L k0_h1))) $$ [H0 H1' H3 H4' H5']
  case region => exact trip4 d L k0_h1 _ _ hk hκ
  · unfold inv4
    isplitl [H0]; · iexact H0
    isplitl [H1']
    · iapply (Entails.of_eq (congrArg (fun f => ((sX).view.loc tt ↦{fullShare} f : sProp 𝕄)) (hfx f1))); iexact H1'
    isplitl [H3]
    · iexists _
      isplitr
      swap; · iexact H3
      ipureintro; exact cur_zero hc
    isplitl [H4']
    · iexists _
      isplitr
      swap; · iexact H4'
      ipureintro; exact placed_zero _ _ _
    · iexists _
      isplitr
      swap; · iexact H5'
      ipureintro; exact placed_zero _ _ _
  iintro %_ HI
  unfold inv4
  icases HI with ⟨H0, H1, ⟨%fd, -, H3⟩, ⟨%fq, %hq, H4⟩, %fo, %ho, H5⟩
  sl_exec
  sl_step
  isplitl [Hx' Hk' Ho' Hq']
  · isplitl [Hx']; · iapply (Entails.of_eq (pts_xRow (F := F) d L k0_h1 _)); iexact Hx'
    isplitl [Hk']; · iapply (Entails.of_eq (pts_kRow (F := F) d L k0_h1 _)); iexact Hk'
    isplitl [Ho']; · iapply (Entails.of_eq (copied_vals m d L k0_h1 ho)); iexact Ho'
    iapply (Entails.of_eq (copied_keys m d L k0_h1 hq)); iexact Hq'
  isplitl [H0 H1 H2 H3 H4 H5 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p _
  rcases p.2 with _ | q
  · exact .inr (.inl rfl)
  · exact .inr (.inr (congrArg some (Subsingleton.elim q 0)))

/-- A task past the last row has no row, and nothing of it changes. -/
theorem rows_idle {w : ℕ} (h : 16 ≤ w) : rowsIn m d w = rowsOut m d w := by
  unfold rowsIn rowsOut
  rw [rowSet_eq_empty h]
  rw [show (oLoc d ↦[(∅ : Finset Mat.Idx)]{fullShare} m (oLoc d) : sProp 𝕄) = oLoc d ↦[(∅ : Finset Mat.Idx)]{fullShare} outX m d from
      pointsTo_congr fun i hi => absurd hi (Finset.notMem_empty i),
    show (qLoc d ↦[(∅ : Finset Mat.Idx)]{fullShare} m (qLoc d) : sProp 𝕄) = qLoc d ↦[(∅ : Finset Mat.Idx)]{fullShare} outK m d from
      pointsTo_congr fun i hi => absurd hi (Finset.notMem_empty i)]

/-- A task past the last row does nothing. -/
theorem tile_body_idle (hc : ¬ k0_cond1 L = 1#1) (O : CellTallies nD τ sig (HIx 1)) (W : Waits sig (HIx 1)) :
    iprop(levAts (K (F := F)).L (K (F := F)).lev ∗ emp ∗ rowsIn m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sort_row_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3)
          fun _ => iprop(rowsOut m d (wid L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [rows_idle m d (Nat.le_of_not_lt fun h => hc ((cond_iff L).mpr h))]
  simp only [cc0__sort_row_body_eq_skeleton]; unfold cc0__sort_row_body_skel
  rw [dif_neg hc]
  iintro ⟨-, -, Hr, Hb, Hs, HO⟩
  sl_exec
  sl_step
  isplitl [Hr]; · iexact Hr
  isplitl [Hb]; · iexact Hb
  isplitl [Hs]; · iexact Hs
  iexists W; isplitr
  · ipureintro; exact fun p hp => .inl hp
  · iexact HO

/-- The task's body, row or no row: from its row of the four arrays to its row with the results sorted. -/
theorem tile_body (hm : ∀ p, (m (kLoc d) p).toNat < 4096) (hF : (K (F := F)).Facts) (O : CellTallies nD τ sig (HIx 1)) (W : Waits sig (HIx 1)) (hO : ∀ g, O g none = 0) :
    iprop(levAts (K (F := F)).L (K (F := F)).lev ∗ emp ∗ rowsIn m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sort_row_body L kV (Memref.isWhole_whole _) xV (Memref.isWhole_whole _) oV (Memref.isWhole_whole _) qV (Memref.isWhole_whole _)
            sK (Memref.isWhole_whole _) sX (Memref.isWhole_whole _) sH (Memref.isWhole_whole _) sC (Memref.isWhole_whole _)
            sQ (Memref.isWhole_whole _) sO (Memref.isWhole_whole _) cc0_scoped0 cc0_scoped1 cc0_scoped2 cc0_scoped3)
          fun _ => iprop(rowsOut m d (wid L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases hc : k0_cond1 L = 1#1
  · exact tile_body_work m d L hm hc hF O W hO
  · exact tile_body_idle m d L hc O W

end Cert.Proof.KernelIdeal

end
-- ==== Proof.KernelIdealRun.lean ====
/- The kernel's run: the arrays go out to the tasks by rows, the tasks run, the rows come back. From keys below 4096 the
   program ends with both results sorted, its arguments unchanged and every semaphore counter at zero. -/
module

public import proofs.«01_k».proof.Proof.KernelIdealTask

@[expose] public section

noncomputable section

namespace Cert.Proof.KernelIdeal

open Cert.KernelIdeal Cert.KernelIdeal.Gen Cert.CountingSort

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_arg0_scv : Memref Cert.KernelIdeal.sig Kind.scVector Space.hbm Cert.KernelIdeal.S16x4096 EltTy.f32)
local notation "kV" => (Memref.whole Cert.KernelIdeal.main_arg1_scv : Memref Cert.KernelIdeal.sig Kind.scVector Space.hbm Cert.KernelIdeal.S16x4096 EltTy.i32)
local notation "oV" => (Memref.whole Cert.KernelIdeal.main_v0_0_scv : Memref Cert.KernelIdeal.sig Kind.scVector Space.hbm Cert.KernelIdeal.S16x4096 EltTy.f32)
local notation "qV" => (Memref.whole Cert.KernelIdeal.main_v0_1_scv : Memref Cert.KernelIdeal.sig Kind.scVector Space.hbm Cert.KernelIdeal.S16x4096 EltTy.i32)
local notation "sK" => (Memref.whole Cert.KernelIdeal.cc0_scratch0 : Memref Cert.KernelIdeal.sig Kind.scVector Space.vmem Cert.KernelIdeal.S4096 EltTy.i32)
local notation "sX" => (Memref.whole Cert.KernelIdeal.cc0_scratch1 : Memref Cert.KernelIdeal.sig Kind.scVector Space.vmem Cert.KernelIdeal.S4096 EltTy.f32)
local notation "sH" => (Memref.whole Cert.KernelIdeal.cc0_scratch2 : Memref Cert.KernelIdeal.sig Kind.scVector Space.vmem Cert.KernelIdeal.S4096 EltTy.i32)
local notation "sC" => (Memref.whole Cert.KernelIdeal.cc0_scratch3 : Memref Cert.KernelIdeal.sig Kind.scVector Space.vmem Cert.KernelIdeal.S4096 EltTy.i32)
local notation "sQ" => (Memref.whole Cert.KernelIdeal.cc0_scratch4 : Memref Cert.KernelIdeal.sig Kind.scVector Space.vmem Cert.KernelIdeal.S4096 EltTy.i32)
local notation "sO" => (Memref.whole Cert.KernelIdeal.cc0_scratch5 : Memref Cert.KernelIdeal.sig Kind.scVector Space.vmem Cert.KernelIdeal.S4096 EltTy.f32)

variable (m : (ℓ : Loc nD τ sig) → Buf (Elt F) ℓ) (ρ : Dev nD → PrngReg)

/-! ## What the call hands over -/

/-- Core `c`'s sixteen tasks' rows before the run. -/
abbrev coreIn (d : Dev nD) (c : ℕ) : sProp 𝕄 := bigSep Finset.univ fun i : Fin 16 => rowsIn m d (2 * i.val + c)
/-- The same after the run. -/
abbrev coreOut (d : Dev nD) (c : ℕ) : sProp 𝕄 := bigSep Finset.univ fun i : Fin 16 => rowsOut m d (2 * i.val + c)

/-- The call hands each core its rows and each task its row, and takes them back with the results'. -/
def P : (K (F := F)).Pay (nD := nD) (Val := Elt F) (Name := ℕ) (U := UU) where
  st := fun _ d c => coreIn m d c.val
  dn := fun _ d c => coreOut m d c.val
  go := fun _ d c i => rowsIn m d (2 * i.val + c.val)
  td := fun _ d c i => rowsOut m d (2 * i.val + c.val)
  x := fun _ _ => iprop(emp)

/-- What the handshakes carry can be kept in the cells. -/
instance P_storable : (P (F := F) m).IsStorable where
  st _ d c := by unfold P; infer_instance
  dn _ d c := by unfold P; infer_instance
  go _ _ _ _ := by unfold P; infer_instance
  td _ _ _ _ := by unfold P; infer_instance

/-! ## The obligation -/

/-- The grid's coordinates of a core and a tile. -/
def coordsV (c : Fin (grid0.bound 0)) (s : Fin (grid0.bound 1)) : grid0.Coords :=
  fun | 0 => c | 1 => s | ⟨_ + 2, h⟩ => absurd h (Nat.not_lt.2 (Nat.le_add_left _ _))

/-- A tile's definition is the task's body at its coordinates. -/
theorem defs₀_vector (c : Fin τ.nSC) (s : Fin τ.nSub) :
    defs₀ (F := F) (.scVector c s) 0 ()
      = SparseCore.onTile hcore0 hsub0 (fun c s => cc0__sort_row_body (coordsV c s)
          kV (Memref.isWhole_whole _) xV (Memref.isWhole_whole _) oV (Memref.isWhole_whole _) qV (Memref.isWhole_whole _)
          sK (Memref.isWhole_whole _) sX (Memref.isWhole_whole _) sH (Memref.isWhole_whole _) sC (Memref.isWhole_whole _)
          sQ (Memref.isWhole_whole _) sO (Memref.isWhole_whole _) cc0_scoped0 cc0_scoped1 cc0_scoped2 cc0_scoped3) ⟨⟩ c s := rfl

/-- What the launch asks of every tile: its task's run. -/
theorem tileObl (hm : ∀ d p, (m (kLoc d) p).toNat < 4096) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) (hm d) hF O W hO

/-! ## The arrays split into the tasks' rows and joined -/

/-- A whole array is its rows, core by core and task by task: so for each of the four. -/
theorem pts_rows_x (d : Dev nD) (f : Buf (Elt F) (xLoc d)) :
    (xLoc d ↦{fullShare} f : sProp 𝕄) = bigSep Finset.univ fun c : Fin 2 => bigSep Finset.univ fun i : Fin 16 => xLoc d ↦[rowSet (2 * i.val + c.val)]{fullShare} f :=
  ((congrArg (fun S => (xLoc d ↦[S]{fullShare} f : sProp 𝕄)) cores_cover).symm.trans (pointsTo_biUnion Finset.univ (ℓ := xLoc d) coreSet cores_disjoint)).trans
    (bigSep_congr fun c _ => pointsTo_biUnion Finset.univ (ℓ := xLoc d) (fun i : Fin 16 => rowSet (2 * i.val + c.val)) (tasks_disjoint c.val))
theorem pts_rows_k (d : Dev nD) (f : Buf (Elt F) (kLoc d)) :
    (kLoc d ↦{fullShare} f : sProp 𝕄) = bigSep Finset.univ fun c : Fin 2 => bigSep Finset.univ fun i : Fin 16 => kLoc d ↦[rowSet (2 * i.val + c.val)]{fullShare} f :=
  ((congrArg (fun S => (kLoc d ↦[S]{fullShare} f : sProp 𝕄)) cores_cover).symm.trans (pointsTo_biUnion Finset.univ (ℓ := kLoc d) coreSet cores_disjoint)).trans
    (bigSep_congr fun c _ => pointsTo_biUnion Finset.univ (ℓ := kLoc d) (fun i : Fin 16 => rowSet (2 * i.val + c.val)) (tasks_disjoint c.val))
theorem pts_rows_o (d : Dev nD) (f : Buf (Elt F) (oLoc d)) :
    (oLoc d ↦{fullShare} f : sProp 𝕄) = bigSep Finset.univ fun c : Fin 2 => bigSep Finset.univ fun i : Fin 16 => oLoc d ↦[rowSet (2 * i.val + c.val)]{fullShare} f :=
  ((congrArg (fun S => (oLoc d ↦[S]{fullShare} f : sProp 𝕄)) cores_cover).symm.trans (pointsTo_biUnion Finset.univ (ℓ := oLoc d) coreSet cores_disjoint)).trans
    (bigSep_congr fun c _ => pointsTo_biUnion Finset.univ (ℓ := oLoc d) (fun i : Fin 16 => rowSet (2 * i.val + c.val)) (tasks_disjoint c.val))
theorem pts_rows_q (d : Dev nD) (f : Buf (Elt F) (qLoc d)) :
    (qLoc d ↦{fullShare} f : sProp 𝕄) = bigSep Finset.univ fun c : Fin 2 => bigSep Finset.univ fun i : Fin 16 => qLoc d ↦[rowSet (2 * i.val + c.val)]{fullShare} f :=
  ((congrArg (fun S => (qLoc d ↦[S]{fullShare} f : sProp 𝕄)) cores_cover).symm.trans (pointsTo_biUnion Finset.univ (ℓ := qLoc d) coreSet cores_disjoint)).trans
    (bigSep_congr fun c _ => pointsTo_biUnion Finset.univ (ℓ := qLoc d) (fun i : Fin 16 => rowSet (2 * i.val + c.val)) (tasks_disjoint c.val))

/-- The two cores' rows are the four arrays. -/
theorem cores_in (d : Dev nD) :
    (bigSep Finset.univ fun c : Fin 2 => coreIn m d c.val)
      = iprop((xLoc d ↦{fullShare} m (xLoc d)) ∗ (kLoc d ↦{fullShare} m (kLoc d)) ∗ (oLoc d ↦{fullShare} m (oLoc d)) ∗ (qLoc d ↦{fullShare} m (qLoc d))) := by
  rw [pts_rows_x, pts_rows_k, pts_rows_o, pts_rows_q]
  simp only [coreIn, rowsIn, bigSep_sep']
/-- And after the run, the arrays with the results sorted. -/
theorem cores_out (d : Dev nD) :
    (bigSep Finset.univ fun c : Fin 2 => coreOut m d c.val)
      = iprop((xLoc d ↦{fullShare} m (xLoc d)) ∗ (kLoc d ↦{fullShare} m (kLoc d)) ∗ (oLoc d ↦{fullShare} outX m d) ∗ (qLoc d ↦{fullShare} outK m d)) := by
  rw [pts_rows_x, pts_rows_k, pts_rows_o, pts_rows_q]
  simp only [coreOut, rowsOut, bigSep_sep']

/-- A core's rows are its tasks'. -/
theorem vecSplit : (K (F := F)).VecSplit' (P m) 0 := by
  intro d c
  show coreIn m d c.val ⊢ |={Set.univ}=> iprop((bigSep Finset.univ fun i : Fin 16 => rowsIn m d (2 * i.val + c.val))
    ∗ ((bigSep Finset.univ fun i : Fin 16 => rowsOut m d (2 * i.val + c.val)) -∗ coreOut m d c.val))
  iintro H; imodintro
  isplitl [H]; · iexact H
  iintro H
  iexact H

/-! ## The launch element: the handshakes' rounds -/

def u₀ : UU := (initOf (K (F := F)).hsCells (K (F := F)).hsToks, 1)

/-- Nothing, everywhere, is nothing. -/
theorem emps {I : Type} (s : Finset I) : (bigSep s fun _ => iprop(emp)) = (iprop(emp) : sProp 𝕄) := bigSep_emp_const s

/-- The launch's resource gives the handshakes' rounds; the tasks need nothing besides. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The whole program -/

theorem unscopedBufs_eq (d : Dev nD) (W : (b : Ref sig .tc) → Buf (Elt F) ((d.tc : Thread nD τ).loc b)) :
    (unscopedBufs d W : sProp 𝕄)
      = iprop((xLoc d ↦{fullShare} W main_arg0) ∗ (kLoc d ↦{fullShare} W main_arg1) ∗ (oLoc d ↦{fullShare} W main_v0_0) ∗ qLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What the call needs and leaves. -/
theorem st0_eq (d : Dev nD) :
    (bigSep Finset.univ fun c : Fin ((K (F := F)).nCore 0) => (P m).st 0 d c)
      = iprop((xLoc d ↦{fullShare} m (xLoc d)) ∗ (kLoc d ↦{fullShare} m (kLoc d)) ∗ (oLoc d ↦{fullShare} m (oLoc d)) ∗ (qLoc d ↦{fullShare} m (qLoc d))) :=
  cores_in m d
theorem dn0_eq (d : Dev nD) :
    (bigSep Finset.univ fun c : Fin ((K (F := F)).nCore 0) => (P m).dn 0 d c)
      = iprop((xLoc d ↦{fullShare} m (xLoc d)) ∗ (kLoc d ↦{fullShare} m (kLoc d)) ∗ (oLoc d ↦{fullShare} outX m d) ∗ (qLoc d ↦{fullShare} outK m d)) :=
  cores_out m d

/-- The arrays at the end. -/
abbrev FIN (d : Dev nD) : sProp 𝕄 :=
  iprop((xLoc d ↦{fullShare} m (xLoc d)) ∗ (kLoc d ↦{fullShare} m (kLoc d)) ∗ (oLoc d ↦{fullShare} outX m d) ∗ (qLoc d ↦{fullShare} outK m d))

/-- The host program: it gives the four arrays to the call and has them back with the results sorted. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Ha, Hts, -⟩, -⟩
  iapply ((K (F := F)).wp_run (D (F := F)) 𝒱 (EH := EH) (P := P m) κ d 0) $$ [Hst Ha Hb Hts]
  isplitr; · iexact Hctx
  isplitl [Hst]; · iexact Hst
  isplitl [Ha]
  · rw [st0_eq]
    iexact Ha
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the final memory holds on device `d`: the arguments unchanged, the results the rows sorted. -/
def fq (d : Dev nD) (s' : Phys nD τ sig (Elt F)) : Prop :=
  (s'.mem.mem (xLoc d) = m (xLoc d) ∧ s'.mem.mem (kLoc d) = m (kLoc d)) ∧ s'.mem.mem (oLoc d) = outX m d ∧ s'.mem.mem (qLoc d) = outK m d

/-- Owning the arrays at the end fixes what the final memory holds. -/
theorem hfin (d : Dev nD) (s' : Phys nD τ sig (Elt F)) : iprop(FIN m d ∗ SI s') ⊢ (⌜fq m d s'⌝ : sProp 𝕄) := by
  iintro ⟨⟨Hx, Hk, Ho, Hq⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (persistent_entails_right (SI_pointsTo_agree (st := s') (ℓ := oLoc d) (I := Finset.univ) (q := fullShare) (f := outX m d))) $$ [HSI Ho]
  · isplitl [HSI] <;> iassumption
  icases H with ⟨%ho, HSI, -⟩
  ihave H := (SI_pointsTo_agree (st := s') (ℓ := qLoc d) (I := Finset.univ) (q := fullShare) (f := outK m d)) $$ [HSI Hq]
  · isplitl [HSI] <;> iassumption
  icases H with %hq
  ipureintro
  exact ⟨⟨funext fun i => hx i (Finset.mem_univ i), funext fun i => hk i (Finset.mem_univ i)⟩,
    funext fun i => ho i (Finset.mem_univ i), funext fun i => hq i (Finset.mem_univ i)⟩

/-! ## The program's run -/

/-- The run's post: every device's arrays as `fq`, every semaphore counter zero. -/
def QC : PUnit × MemSt nD τ sig (Elt F) → Prop := fun r =>
  (∀ c : Dev nD, (r.2.mem (xLoc c) = m (xLoc c) ∧ r.2.mem (kLoc c) = m (kLoc c)) ∧ r.2.mem (oLoc c) = outX m c ∧ r.2.mem (qLoc c) = outK m c)
    ∧ r.2.sem = fun _ => 0

/-- From positions below 4096 the program ends with each row of the two results sorted by its positions, the arguments
    unchanged and every counter at zero. -/
theorem run_main [∀ e, Nonempty (Elt F e)] (hm : ∀ d p, (m (kLoc d) p).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.ReferenceValue.lean ====
/- What the reference computes: an argsort of each row of keys, then the entries of the two arrays taken at it. Where
   every key is below 4096 the two results are the two sorted arrays. -/
module

public import proofs.«01_k».proof.Proof.Gen.ReferenceIdeal.Run
public import proofs.«01_k».proof.Proof.Rows
public import Idealize.ShloMosaic.Lib.ReduceAll
public import Idealize.ShloMosaic.Lib.SortFacts
public import Idealize.ShloMosaic.Lib.ValueIdxCore
public import Idealize.ShloMosaic.Lib.Pipeline.Value

@[expose] public section

noncomputable section

namespace Cert.Proof.Reference

open Cert.ReferenceIdeal Cert.ReferenceIdeal.Gen Idealize.ShloMosaic Cert.CountingSort

/-! ## Words below 4096 -/

/-- A word below 4096 read as a signed integer is its natural number. -/
theorem toInt_of_lt {v : BitVec 32} (h : v.toNat < 4096) : v.toInt = v.toNat := by
  rw [BitVec.toInt_eq_toNat_cond, if_pos (by omega)]

/-- A position in a row is the value of its word. -/
theorem toNat_word (k : Fin 4096) : (BitVec.ofNat 32 k.val).toNat = k.val := by
  have := k.isLt
  rw [BitVec.toNat_ofNat, Nat.mod_eq_of_lt (by omega)]

/-- On words below 4096 the signed comparison is that of the natural numbers. -/
theorem slt_eq {v w : BitVec 32} (hv : v.toNat < 4096) (hw : w.toNat < 4096) :
    (IntOp.cmpi .slt v w == 1#1) = decide (v.toNat < w.toNat) := by
  rw [Bool.eq_iff_iff, beq_iff_eq, IntOp.cmpi_slt, decide_eq_true_iff, toInt_of_lt hv, toInt_of_lt hw]
  omega

/-! ## The argsort -/

/-- The position an argsort of row `r` puts at `t`. -/
def order (y : Mat.Idx → BitVec 32) (r : Fin 16) (t : Fin 4096) : Fin 4096 :=
  sortedFrom (keyBefore (keysOf y r) 4096) t

theorem along_eq (p : Mat.Idx) (k : Fin 4096) : p.along 1 k = cell (p 0) k := by
  refine mat_ext ?_ ?_
  · have h : (0 : Fin Mat.rank) ≠ 1 := by decide
    exact congrArg Fin.val (Function.update_of_ne h k p)
  · have h : p.along 1 k 1 = k := Function.update_self (β := fun a => Fin (Mat.size a)) 1 k p
    exact congrArg Fin.val h

/-- The argsort's words: at entry `t` of row `r`, the position in the row of the entry that belongs there. -/
theorem argsort_apply (y : Mat.Idx → BitVec 32) (hy : ∀ p, (y p).toNat < 4096) (p : Mat.Idx) :
    (Host.sort2 S16x4096 1 comparator_i32_i32_d1 y (iotaInDim S16x4096 32 1)).2 p
      = BitVec.ofNat 32 (order y (p 0) (p 1)).val := by
  have hc : sortedFrom (fun k k' : Fin 4096 => comparator_i32_i32_d1
      (y (p.along 1 k), iotaInDim S16x4096 32 1 (p.along 1 k)) (y (p.along 1 k'), iotaInDim S16x4096 32 1 (p.along 1 k')) == 1#1)
      = sortedFrom (keyBefore (keysOf y (p 0)) 4096) := by
    refine sortedFrom_congr _ _ fun k k' _ => ?_
    have e : ∀ k : Fin 4096, (y (p.along 1 k)).toNat = keysOf y (p 0) k.val := fun k =>
      (congrArg (fun i => (y i).toNat) (along_eq p k)).trans (keysOf_lt y (p 0) k).symm
    refine (slt_eq (hy (p.along 1 k)) (hy (p.along 1 k'))).trans ?_
    exact congrArg₂ (fun a b : ℕ => decide (a < b)) (e k) (e k')
  have hd : 1 < S16x4096.rank := by decide
  unfold Host.sort2
  rw [dif_pos hd]
  refine (congrArg (fun k : Fin 4096 => BitVec.ofNat 32 (p.along 1 k 1).val) (congrFun hc (p 1))).trans ?_
  show BitVec.ofNat 32 (p.along 1 (order y (p 0) (p 1)) 1).val = BitVec.ofNat 32 (order y (p 0) (p 1)).val
  generalize order y (p 0) (p 1) = k
  exact congrArg (fun i : Mat.Idx => BitVec.ofNat 32 (i 1).val) (along_eq p k)

/-! ## Taking entries along a row -/

/-- The start-index entry of result entry `p`. -/
abbrev at3 (p : Mat.Idx) : S16x4096x1.Idx := ValueIdx.takeIdx (R := 16) (C := 4096) p

/-- The gather's dimension numbers: rows batched, one entry taken along a row. -/
abbrev dims : GatherDims S16x4096 S16x4096x1 S16x4096 := gather_S16x4096_S16x4096x1_S16x4096_n_1_0_0_1_2_11

/-- The one start index that result entry `p` reads, at any position of the index vector (it has one). -/
theorem siIdx_eq (p : Mat.Idx) (k : Fin dims.startIndexMap.length) : dims.siIdx p k = at3 p := by
  obtain rfl : k = ⟨0, Nat.one_pos⟩ := Fin.ext (Nat.lt_one_iff.mp k.isLt)
  funext b
  match b with
  | 0 => exact Fin.ext rfl
  | 1 => exact Fin.ext rfl
  | 2 => exact Fin.ext rfl

/-- On the row axis the gather reads the result entry's own row. -/
theorem operandIdx_row (p : Mat.Idx) (idx : IVec S16x4096x1 32) : (dims.operandIdx p idx 0).val = (p 0).val := by
  have h0 : dims.start p idx 0 = 0 := dims.start_batching p idx 0 (List.mem_singleton.mpr rfl)
  have h2 : dims.offCoord p 0 = 0 := rfl
  have h1 : dims.batchCoord p 0 = (p 0).val := rfl
  show dims.start p idx 0 + dims.batchCoord p 0 + dims.offCoord p 0 = _
  omega

/-- Along the row it reads at the start index, clamped into the row. -/
theorem operandIdx_entry (p : Mat.Idx) (idx : IVec S16x4096x1 32) :
    (dims.operandIdx p idx 1).val = min (idx (at3 p)).toInt.toNat 4095 := by
  have h0 : dims.start p idx 1 = min (idx (dims.siIdx p ⟨0, Nat.one_pos⟩)).toInt.toNat 4095 := rfl
  have h1 : dims.batchCoord p 1 = 0 := rfl
  have h2 : dims.offCoord p 1 = 0 := rfl
  rw [siIdx_eq] at h0
  show dims.start p idx 1 + dims.batchCoord p 1 + dims.offCoord p 1 = _
  omega

/-- Entry `p` of the gather: the entry of the same row at the start index, clamped into the row. -/
theorem gather_apply {α : Type} (x : Mat.Idx → α) (idx : IVec S16x4096x1 32) (p : Mat.Idx) :
    Host.gather dims x idx p = x (cell (p 0) ⟨min (idx (at3 p)).toInt.toNat 4095, by omega⟩) :=
  congrArg x (mat_ext (operandIdx_row p idx) (operandIdx_entry p idx))

/-- The positions as the reference looks them up: `4096` added to a negative one, then a trailing axis of size one. -/
abbrev lookup (σ : IVec S16x4096 32) : IVec S16x4096x1 32 :=
  shapeCast S16x4096x1 (select (cmpi .slt σ (broadcastInDim S16x4096 ![] bcast_S_S16x4096 (constantI S_ 32 0#32)))
    (addi σ (broadcastInDim S16x4096 ![] bcast_S_S16x4096 (constantI S_ 32 4096#32))) σ) shapeCasts_S16x4096_S16x4096x1

/-- The index of the entry of a `16` by `4096` array that `i` names. -/
def flat (i : S16x4096x1.Idx) : Mat.Idx := cell (i 0) (i 1)

theorem flat_at3 (p : Mat.Idx) : flat (at3 p) = p := mat_ext rfl rfl

/-- On positions below 4096 the lookup changes none. -/
theorem lookup_apply (σ : IVec S16x4096 32) (hσ : ∀ p, (σ p).toNat < 4096) (i : S16x4096x1.Idx) :
    lookup σ i = σ (flat i) := by
  have hi : (S16x4096.rowMajor (flat i)).val = (S16x4096x1.rowMajor i).val := by
    rw [Shape.rowMajor_val_two, Shape.rowMajor_val_three]
    have h2 : (i 2).val < 1 := (i 2).isLt
    show (i 0).val * 4096 + (i 1).val = ((i 0).val * 4096 + (i 1).val) * 1 + (i 2).val
    omega
  unfold lookup
  rw [shapeCast_apply _ _ _ (flat i) hi]
  have hn : ¬ IntOp.cmpi .slt (σ (flat i)) 0#32 = 1#1 := by
    rw [IntOp.cmpi_slt, toInt_of_lt (hσ _)]
    have : (0#32).toInt = 0 := by decide
    omega
  show Scalar.select (IntOp.cmpi .slt (σ (flat i)) 0#32) (σ (flat i) + 4096#32) (σ (flat i)) = _
  rw [ValueIdx.eq_zero_of_ne_one hn, ValueIdx.select_zero]

/-- Taking along a row at positions below 4096: each result entry is the entry at its position, the fill never used. -/
theorem take_apply {α : Type} (x : Mat.Idx → α) (fill : Mat.Idx → α) (σ : IVec S16x4096 32) (hσ : ∀ p, (σ p).toNat < 4096) (p : Mat.Idx) :
    select (Host.reduce IntOp.andi
        (andi (cmpi .sge (lookup σ) (broadcastInDim S16x4096x1 ![] bcast_S_S16x4096x1 (constantI S_ 32 0#32)))
          (cmpi .sle (lookup σ) (broadcastInDim S16x4096x1 ![0, 1, 2] bcast_S1x1x1_S16x4096x1_0_1_2
            (broadcastInDim S1x1x1 ![2] bcast_S1_S1x1x1_2 (constantI S1 32 4095#32)))))
        (constantI S_ 1 1#1) reducesTo_S16x4096x1_S16x4096_d2 h_S_)
      (Host.gather gather_S16x4096_S16x4096x1_S16x4096_n_1_0_0_1_2_11 x (lookup σ)) fill p
      = x (cell (p 0) ⟨(σ p).toNat, hσ p⟩) := by
  have hr : Host.reduce IntOp.andi
        (andi (cmpi .sge (lookup σ) (broadcastInDim S16x4096x1 ![] bcast_S_S16x4096x1 (constantI S_ 32 0#32)))
          (cmpi .sle (lookup σ) (broadcastInDim S16x4096x1 ![0, 1, 2] bcast_S1x1x1_S16x4096x1_0_1_2
            (broadcastInDim S1x1x1 ![2] bcast_S1_S1x1x1_2 (constantI S1 32 4095#32)))))
        (constantI S_ 1 1#1) reducesTo_S16x4096x1_S16x4096_d2 h_S_ p = 1#1 := by
    refine Host.reduce_andi_one _ _ _ _ _ rfl fun i => ?_
    show IntOp.andi (IntOp.cmpi .sge (lookup σ i) 0#32) (IntOp.cmpi .sle (lookup σ i) 4095#32) = 1#1
    rw [lookup_apply σ hσ, IntOp.andi_eq_one, IntOp.cmpi_sge, IntOp.cmpi_sle, toInt_of_lt (hσ _)]
    have e0 : (0#32).toInt = 0 := by decide
    have e1 : (4095#32).toInt = 4095 := by decide
    have := hσ (flat i)
    omega
  show Scalar.select (Host.reduce IntOp.andi _ _ _ _ p) _ _ = _
  rw [hr, ValueIdx.select_one, gather_apply]
  refine congrArg x (mat_ext rfl ?_)
  show min (lookup σ (at3 p)).toInt.toNat 4095 = (σ p).toNat
  rw [lookup_apply σ hσ, flat_at3, toInt_of_lt (hσ p)]
  have := hσ p
  omega

/-- Taking along the rows at the argsort of keys below 4096 gives the sorted rows. -/
theorem take_sorted {α : Type} (x : Mat.Idx → α) (fill : Mat.Idx → α) (y : Mat.Idx → BitVec 32) (hy : ∀ p, (y p).toNat < 4096)
    (σ : IVec S16x4096 32) (hσ : σ = (Host.sort2 S16x4096 1 comparator_i32_i32_d1 y (iotaInDim S16x4096 32 1)).2) :
    select (Host.reduce IntOp.andi
        (andi (cmpi .sge (lookup σ) (broadcastInDim S16x4096x1 ![] bcast_S_S16x4096x1 (constantI S_ 32 0#32)))
          (cmpi .sle (lookup σ) (broadcastInDim S16x4096x1 ![0, 1, 2] bcast_S1x1x1_S16x4096x1_0_1_2
            (broadcastInDim S1x1x1 ![2] bcast_S1_S1x1x1_2 (constantI S1 32 4095#32)))))
        (constantI S_ 1 1#1) reducesTo_S16x4096x1_S16x4096_d2 h_S_)
      (Host.gather gather_S16x4096_S16x4096x1_S16x4096_n_1_0_0_1_2_11 x (lookup σ)) fill
      = sortedRows y x := by
  have ha : ∀ p, (σ p).toNat = (order y (p 0) (p 1)).val := fun p =>
    (congrArg BitVec.toNat ((congrFun hσ p).trans (argsort_apply y hy p))).trans (toNat_word (order y (p 0) (p 1)))
  have hb : ∀ p, (σ p).toNat < 4096 := fun p => by
    rw [ha p]
    exact (order y (p 0) (p 1)).isLt
  funext p
  rw [take_apply x fill σ hb p]
  show _ = x (cell (p 0) (order y (p 0) (p 1)))
  have hc : cell (p 0) ⟨(σ p).toNat, hb p⟩ = cell (p 0) (order y (p 0) (p 1)) := by
    have h := ha p
    generalize order y (p 0) (p 1) = k at h ⊢
    exact congrArg (cell (p 0)) (Fin.ext h)
  exact congrArg x hc

/-! ## The run -/

/-- Where every key is below 4096 the reference ends with its two results at the sorted arrays, its arguments unchanged. -/
theorem run_main {F : FTy → Type} [FloatOps F] (m : (ℓ : Loc nD τ sig) → Buf (Elt F) ℓ) (ρ : Dev nD → PrngReg)
    (hm : ∀ (c : Dev nD) (p : Mat.Idx), ((m ((c.tc : Thread nD τ).loc main_arg1) : Mat.Idx → BitVec 32) p).toNat < 4096) :
    θ_run defs (onTc (τ := τ) (main (F := F))) ⟨m, fun _ => 0, ρ⟩ fun r => ∀ c : Dev nD,
      r.2.mem ((c.tc : Thread nD τ).loc main_v2) = sortedRows (m ((c.tc : Thread nD τ).loc main_arg1)) (m ((c.tc : Thread nD τ).loc main_arg0))
      ∧ r.2.mem ((c.tc : Thread nD τ).loc main_v1) = sortedRows (m ((c.tc : Thread nD τ).loc main_arg1)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans (take_sorted _ _ _ (hm c) _ rfl), (h c).2.1.trans (take_sorted _ _ _ (hm c) _ rfl), (h c).2.2⟩)
    (Cert.ReferenceIdeal.Value.run m ρ)

end Cert.Proof.Reference

end
-- ==== Proof.Precondition.lean ====
/- What the precondition says of the second argument: every word of it, read as a natural number, is below 4096. -/
module

public import proofs.«01_k».proof.Pre_positions_in_range
public import proofs.«01_k».proof.Proof.Gen.Pre_positions_in_range
public import Idealize.ShloMosaic.Lib.ReduceAll

@[expose] public section

namespace Cert.Proof.Precondition

open Idealize.ShloMosaic Cert.Pre_positions_in_range

/-- A word at least zero and below 4096, both read as signed, is below 4096 as a natural number. -/
theorem toNat_lt {v : BitVec 32} (h0 : IntOp.cmpi .sge v 0#32 = 1#1) (h1 : IntOp.cmpi .slt v 4096#32 = 1#1) :
    v.toNat < 4096 := by
  rw [IntOp.cmpi_sge] at h0
  rw [IntOp.cmpi_slt] at h1
  have e0 : (0#32).toInt = 0 := by decide
  have e1 : (4096#32).toInt = 4096 := by decide
  rw [e0] at h0
  rw [e1] at h1
  rw [BitVec.toInt_eq_toNat_cond] at h0 h1
  have := v.isLt
  split at h0 <;> omega

instance : Subsingleton S_.Idx := ⟨fun _ _ => funext fun a => a.elim0⟩

/-- Where the precondition holds, every word of its second argument is below 4096. -/
theorem keys_lt {F : FTy → Type} [FloatOps F] {x : FVec F S16x4096 .f32} {y : IVec S16x4096 32}
    (h : fn (F := F) x y = fun _ => 1#1) (p : S16x4096.Idx) : (y p).toNat < 4096 := by
  have e := Host.reduce_andi_all _ _ _ _ _ (congrFun h (fun a => a.elim0)) p
  have e' := IntOp.andi_eq_one.mp e
  exact toNat_lt e'.1 e'.2

end Cert.Proof.Precondition
-- ==== Proof.lean ====
module

public import proofs.«01_k».proof.Defs
public import proofs.«01_k».proof.Proof.KernelRun
public import proofs.«01_k».proof.Proof.KernelIdealRun
public import proofs.«01_k».proof.Proof.ReferenceValue
public import proofs.«01_k».proof.Proof.Precondition
public import Idealize.ShloMosaic.Lib.Quiescent

@[expose] public section

noncomputable section

namespace Cert.Proof

open Idealize.ShloMosaic Idealize.SL.Sem Cert.CountingSort

/-- `Cert.quiescent_Kernel`: the kernel as it runs on the machine's own floats. -/
theorem frame_p : Cert.quiescent_Kernel := fun m ρ hpre =>
  (θ_run Cert.Kernel.defs _ _).mono (fun _ h => ⟨fun c => (h.1 c).1, h.2⟩)
    (Kernel.run_main (F := Bits) m ρ fun d p => Precondition.keys_lt (hpre d) p)

/-- `Cert.quiescent_KernelIdeal`: the same of the kernel over the extended reals. -/
theorem frame_pi : Cert.quiescent_KernelIdeal := fun m ρ hpre =>
  (θ_run Cert.KernelIdeal.defs _ _).mono (fun _ h => ⟨fun c => (h.1 c).1, h.2⟩)
    (KernelIdeal.run_main (F := Ideal) m ρ fun d p => Precondition.keys_lt (hpre d) p)

/-- `Cert.quiescent_ReferenceIdeal`: the reference runs from any memory; it has no semaphore to leave unpaid. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- `Cert.quiescent_ReferenceIdeal_pre_positions_in_range`: so it does under the precondition. -/
theorem frame_ri_pre : Cert.quiescent_ReferenceIdeal_pre_positions_in_range := fun m ρ _ => frame_ri m ρ trivial

/-- `Cert.algebraic_KernelIdeal_ReferenceIdeal`: the shared values are the two sorted arrays of the kernel's arguments. -/
theorem algebraic : Cert.algebraic_KernelIdeal_ReferenceIdeal := fun m ρ m' ρ' hpre hin =>
  ⟨fun c => KernelIdeal.outX m c, fun c => KernelIdeal.outK m c,
    (θ_run Cert.KernelIdeal.defs _ _).mono (fun _ h c => ⟨(h.1 c).2.1, (h.1 c).2.2, (h.1 c).1⟩)
      (KernelIdeal.run_main (F := Ideal) m ρ fun d p => Precondition.keys_lt (hpre d) p),
    (θ_run Cert.ReferenceIdeal.defs _ _).mono
      (fun _ h c => ⟨(h c).1.trans (congrArg₂ sortedRows (hin c).2 (hin c).1),
        (h c).2.1.trans (congrArg₂ sortedRows (hin c).2 (hin c).2), (h c).2.2⟩)
      (Reference.run_main (F := Ideal) m' ρ' fun d p => by
        have e := congrFun (hin d).2 p
        exact (congrArg BitVec.toNat e).trans_lt (Precondition.keys_lt (hpre d) p))⟩

/-- Everything this certificate claims. -/
theorem claim : Cert.Claim :=
  ⟨Cert.Kernel.Gen.facts, Cert.KernelIdeal.Gen.facts, Cert.ReferenceIdeal.Gen.facts, Cert.Pre_positions_in_range.Gen.facts,
    frame_p, frame_pi, frame_ri, frame_ri_pre, trivial, algebraic⟩

end Cert.Proof

end
